-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_exact_sums [hPre_exact_sums : Cert.Pre_exact_sums.Facts] (m : (ℓ : Loc Cert.KernelIdeal.nD Cert.KernelIdeal.τ Cert.KernelIdeal.sig) → Buf (Elt Ideal) ℓ) : Prop :=
  ∀ c : Dev Cert.KernelIdeal.nD,
    (Cert.Pre_exact_sums.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_exact_sums.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_exact_sums [hPre_exact_sums : Cert.Pre_exact_sums.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_exact_sums.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_exact_sums.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_exact_sums [hKernelIdeal : Cert.KernelIdeal.Facts] [hPre_exact_sums : Cert.Pre_exact_sums.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_exact_sums m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_exact_sums [hReferenceIdeal : Cert.ReferenceIdeal.Facts] [hPre_exact_sums : Cert.Pre_exact_sums.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_exact_sums m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "one_127th" .f32 0x3C010204#32 ((1 / 127 : ℝ) : EReal)
  ∧ IdealRules.named_const.Statement Cert.KernelIdeal.κ "one_254th" .f32 0x3B810204#32 ((1 / 254 : ℝ) : EReal)

def algebraic_KernelIdeal_ReferenceIdeal_pre_exact_sums [hKernelIdeal : Cert.KernelIdeal.Facts] [hReferenceIdeal : Cert.ReferenceIdeal.Facts] [hPre_exact_sums : Cert.Pre_exact_sums.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_exact_sums m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_exact_sums : Cert.Pre_exact_sums.Facts),
    quiescent_Kernel (hKernel := hKernel)
    ∧ quiescent_KernelIdeal (hKernelIdeal := hKernelIdeal)
    ∧ quiescent_KernelIdeal_pre_exact_sums (hKernelIdeal := hKernelIdeal) (hPre_exact_sums := hPre_exact_sums)
    ∧ quiescent_ReferenceIdeal (hReferenceIdeal := hReferenceIdeal)
    ∧ quiescent_ReferenceIdeal_pre_exact_sums (hReferenceIdeal := hReferenceIdeal) (hPre_exact_sums := hPre_exact_sums)
    ∧ preserves_Kernel_KernelIdeal
    ∧ algebraic_KernelIdeal_ReferenceIdeal_pre_exact_sums (hKernelIdeal := hKernelIdeal) (hReferenceIdeal := hReferenceIdeal) (hPre_exact_sums := hPre_exact_sums)
-- ==== Pre_exact_sums.lean ====
abbrev S10000x128 : Shape := ⟨2, ![10000, 128]⟩
abbrev S10000x10000 : Shape := ⟨2, ![10000, 10000]⟩
abbrev S128x32 : Shape := ⟨2, ![128, 32]⟩
abbrev S32x16 : Shape := ⟨2, ![32, 16]⟩
abbrev S10000x32 : Shape := ⟨2, ![10000, 32]⟩
abbrev S_ : Shape := ⟨0, ![]⟩
abbrev S10000x16 : Shape := ⟨2, ![10000, 16]⟩
abbrev S10000x64 : Shape := ⟨2, ![10000, 64]⟩

class Facts : Prop where
  bcast_S_S10000x32 : S_.BroadcastsInDim S10000x32 (![] : Fin 0 → Fin S10000x32.rank)
  concatenates_S10000x16_S10000x16_S10000x32_d1 : Shape.Concatenates [S10000x16, S10000x16] S10000x32 1
  reducesTo_S10000x32_S_d0_1 : S10000x32.ReducesTo [0, 1] S_
  h_S_ : 0 < S_.numel
  bcast_S_S10000x10000 : S_.BroadcastsInDim S10000x10000 (![] : Fin 0 → Fin S10000x10000.rank)
  concatenates_S10000x32_S10000x32_S10000x64_d1 : Shape.Concatenates [S10000x32, S10000x32] S10000x64 1
  bcast_S_S10000x64 : S_.BroadcastsInDim S10000x64 (![] : Fin 0 → Fin S10000x64.rank)
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x32_S32x16_S10000x16_1_0_0_1_n_n_wf : DotDims.WF S10000x32 S32x16 S10000x16 [1] [0] [0] [1] [] []
  dot_S10000x10000_S10000x64_S10000x64_1_0_0_1_n_n_wf : DotDims.WF S10000x10000 S10000x64 S10000x64 [1] [0] [0] [1] [] []

variable [Facts]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def fn_round {F : FTy → Type} [FloatOps F] (arg0 : FVec F S10000x32 .f32) : FVec F S10000x32 .f32 :=
  let v0 : FVec F S10000x32 .f32 := Host.roundeven arg0
  v0

def fn_round_0 {F : FTy → Type} [FloatOps F] (arg0 : FVec F S10000x10000 .f32) : FVec F S10000x10000 .f32 :=
  let v0 : FVec F S10000x10000 .f32 := Host.roundeven arg0
  v0

def fn_clip {F : FTy → Type} [FloatOps F] (arg0 : FVec F S10000x10000 .f32) (arg1 : FVec F S_ .f32) (arg2 : FVec F S_ .f32) : FVec F S10000x10000 .f32 :=
  let v0 : FVec F S_ .f32 := id arg1
  let v1 : FVec F S10000x10000 .f32 := broadcastInDim S10000x10000 ![] bcast_S_S10000x10000 v0
  let v2 : FVec F S10000x10000 .f32 := maximumf v1 arg0
  let v3 : FVec F S_ .f32 := id arg2
  let v4 : FVec F S10000x10000 .f32 := broadcastInDim S10000x10000 ![] bcast_S_S10000x10000 v3
  let v5 : FVec F S10000x10000 .f32 := minimumf v4 v2
  v5

def fn_part1 {F : FTy → Type} [FloatOps F] (main_arg0 : FVec F S10000x128 .f32) (main_arg1 : FVec F S10000x10000 .f32) (main_arg2 : FVec F S128x32 .f32) (main_v13 : FVec F S10000x32 .f32) (main_v17 : FVec F S10000x32 .f32) (main_v18 : FVec F S10000x32 .f32) : IVec S10000x32 1 × IVec S10000x64 1 :=
  let main_v19 : FVec F S10000x32 .f32 := Host.divf main_v17 main_v18
  let main_v20 : FVec F S10000x32 .f32 := fn_round (F := F) main_v19
  let main_cst_4 : FVec F S_ .f32 := constant S_ .f32 0x4A1BA3C0#32
  let main_v21 : FVec F S10000x10000 .f32 := broadcastInDim S10000x10000 ![] bcast_S_S10000x10000 main_cst_4
  let main_v22 : FVec F S10000x10000 .f32 := mulf main_arg1 main_v21
  let main_v23 : FVec F S10000x10000 .f32 := fn_round_0 (F := F) main_v22
  let main_cst_5 : FVec F S_ .f32 := constant S_ .f32 0x00000000#32
  let main_cst_6 : FVec F S_ .f32 := constant S_ .f32 0x437F0000#32
  let main_v24 : FVec F S10000x10000 .f32 := fn_clip (F := F) main_v23 main_cst_5 main_cst_6
  let main_cst_7 : FVec F S_ .f32 := constant S_ .f32 0x43000000#32
  let main_v25 : FVec F S10000x10000 .f32 := broadcastInDim S10000x10000 ![] bcast_S_S10000x10000 main_cst_7
  let main_v26 : FVec F S10000x10000 .f32 := subf main_v24 main_v25
  let main_v27 : FVec F S10000x10000 .f32 := Host.absf main_v26
  let main_v28 : FVec F S10000x64 .f32 := (fun a b => concatenate S10000x64 1 [⟨S10000x32, a⟩, ⟨S10000x32, b⟩] concatenates_S10000x32_S10000x32_S10000x64_d1) main_v13 main_v20
  let main_v29 : FVec F S10000x64 .f32 := Host.absf main_v28
  let main_v30 : FVec F S10000x64 .f32 := (fun l r => Host.dotGeneral dot_S10000x10000_S10000x64_S10000x64_1_0_0_1_n_n none l r) main_v27 main_v29
  let main_v31 : FVec F S10000x32 .f32 := (fun l r => Host.dotGeneral dot_S10000x128_S128x32_S10000x32_1_0_0_1_n_n none l r) main_arg0 main_arg2
  let main_v32 : FVec F S10000x32 .f32 := Host.absf main_v31
  let main_cst_8 : FVec F S_ .f32 := constant S_ .f32 0x7F800000#32
  let main_v33 : FVec F S10000x32 .f32 := broadcastInDim S10000x32 ![] bcast_S_S10000x32 main_cst_8
  let main_v34 : IVec S10000x32 1 := cmpf .olt main_v32 main_v33
  let main_cst_9 : FVec F S_ .f32 := constant S_ .f32 0x4C800000#32
  let main_v35 : FVec F S10000x64 .f32 := broadcastInDim S10000x64 ![] bcast_S_S10000x64 main_cst_9
  let main_v36 : IVec S10000x64 1 := cmpf .ole main_v30 main_v35
  (main_v34, main_v36)

def fn {F : FTy → Type} [FloatOps F] (main_arg0 : FVec F S10000x128 .f32) (main_arg1 : FVec F S10000x10000 .f32) (main_arg2 : FVec F S128x32 .f32) (main_arg3 : FVec F S32x16 .f32) (main_arg4 : FVec F S32x16 .f32) : IVec S10000x32 1 × IVec S10000x64 1 :=
  let main_v0 : FVec F S10000x32 .f32 := (fun l r => Host.dotGeneral dot_S10000x128_S128x32_S10000x32_1_0_0_1_n_n none l r) main_arg0 main_arg2
  let main_v1 : FVec F S10000x32 .f32 := (fun l r => Host.dotGeneral dot_S10000x10000_S10000x32_S10000x32_1_0_0_1_n_n none l r) main_arg1 main_v0
  let main_cst : FVec F S_ .f32 := constant S_ .f32 0x00000000#32
  let main_v2 : FVec F S10000x32 .f32 := broadcastInDim S10000x32 ![] bcast_S_S10000x32 main_cst
  let main_v3 : FVec F S10000x32 .f32 := maximumf main_v1 main_v2
  let main_v4 : FVec F S10000x16 .f32 := (fun l r => Host.dotGeneral dot_S10000x32_S32x16_S10000x16_1_0_0_1_n_n none l r) main_v3 main_arg3
  let main_v5 : FVec F S10000x16 .f32 := (fun l r => Host.dotGeneral dot_S10000x32_S32x16_S10000x16_1_0_0_1_n_n none l r) main_v3 main_arg4
  let main_v6 : FVec F S10000x32 .f32 := (fun a b => concatenate S10000x32 1 [⟨S10000x16, a⟩, ⟨S10000x16, b⟩] concatenates_S10000x16_S10000x16_S10000x32_d1) main_v4 main_v5
  let main_v7 : FVec F S10000x32 .f32 := Host.absf main_v6
  let main_cst_0 : FVec F S_ .f32 := constant S_ .f32 0xFF800000#32
  let main_v8 : FVec F S_ .f32 := (fun x v => Host.reduce FloatOps.maximumf x v reducesTo_S10000x32_S_d0_1 h_S_) main_v7 main_cst_0
  let main_cst_1 : FVec F S_ .f32 := constant S_ .f32 0x0DA24260#32
  let main_v9 : FVec F S_ .f32 := maximumf main_v8 main_cst_1
  let main_cst_2 : FVec F S_ .f32 := constant S_ .f32 0x42FE0000#32
  let main_v10 : FVec F S_ .f32 := Host.divf main_v9 main_cst_2
  let main_v11 : FVec F S10000x32 .f32 := broadcastInDim S10000x32 ![] bcast_S_S10000x32 main_v10
  let main_v12 : FVec F S10000x32 .f32 := Host.divf main_v6 main_v11
  let main_v13 : FVec F S10000x32 .f32 := fn_round (F := F) main_v12
  let main_cst_3 : FVec F S_ .f32 := constant S_ .f32 0x437E0000#32
  let main_v14 : FVec F S_ .f32 := Host.divf main_v10 main_cst_3
  let main_v15 : FVec F S10000x32 .f32 := broadcastInDim S10000x32 ![] bcast_S_S10000x32 main_v10
  let main_v16 : FVec F S10000x32 .f32 := mulf main_v13 main_v15
  let main_v17 : FVec F S10000x32 .f32 := subf main_v6 main_v16
  let main_v18 : FVec F S10000x32 .f32 := broadcastInDim S10000x32 ![] bcast_S_S10000x32 main_v14
  fn_part1 (F := F) main_arg0 main_arg1 main_arg2 main_v13 main_v17 main_v18
-- ==== Kernel.lean ====
abbrev S10000x128 : Shape := ⟨2, ![10000, 128]⟩
abbrev S10000x10000 : Shape := ⟨2, ![10000, 10000]⟩
abbrev S128x32 : Shape := ⟨2, ![128, 32]⟩
abbrev S32x16 : Shape := ⟨2, ![32, 16]⟩
abbrev S32x32 : Shape := ⟨2, ![32, 32]⟩
abbrev S10000x32 : Shape := ⟨2, ![10000, 32]⟩
abbrev S400x10000 : Shape := ⟨2, ![400, 10000]⟩
abbrev S400x32 : Shape := ⟨2, ![400, 32]⟩
abbrev S10000x64 : Shape := ⟨2, ![10000, 64]⟩
abbrev S400x64 : Shape := ⟨2, ![400, 64]⟩
abbrev S1x10000x32 : Shape := ⟨3, ![1, 10000, 32]⟩
abbrev S1 : Shape := ⟨1, ![1]⟩
abbrev S1x1x1 : Shape := ⟨3, ![1, 1, 1]⟩
abbrev S32 : Shape := ⟨1, ![32]⟩
abbrev S1x32 : Shape := ⟨2, ![1, 32]⟩
abbrev S10000x16 : Shape := ⟨2, ![10000, 16]⟩

abbrev nBuf : Space → Nat
  | .hbm => 12
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32x16, .f32⟩
  | .hbm, ⟨4, _⟩ => ⟨S32x16, .f32⟩
  | .hbm, ⟨5, _⟩ => ⟨S32x32, .f32⟩
  | .hbm, ⟨6, _⟩ => ⟨S10000x32, .f32⟩
  | .hbm, ⟨7, _⟩ => ⟨S10000x32, .f32⟩
  | .hbm, ⟨8, _⟩ => ⟨S10000x10000, .i8⟩
  | .hbm, ⟨9, _⟩ => ⟨S10000x32, .f32⟩
  | .hbm, ⟨10, _⟩ => ⟨S10000x16, .f32⟩
  | .hbm, ⟨11, _⟩ => ⟨S10000x16, .f32⟩
  | .local _ .vmem, ⟨0, _⟩ => ⟨S10000x128, .f32⟩
  | .local _ .vmem, ⟨1, _⟩ => ⟨S128x32, .f32⟩
  | .local _ .vmem, ⟨2, _⟩ => ⟨S10000x32, .f32⟩
  | .local _ .vmem, ⟨3, _⟩ => ⟨S400x10000, .f32⟩
  | .local _ .vmem, ⟨4, _⟩ => ⟨S400x10000, .f32⟩
  | .local _ .vmem, ⟨5, _⟩ => ⟨S10000x32, .f32⟩
  | .local _ .vmem, ⟨6, _⟩ => ⟨S32x32, .f32⟩
  | .local _ .vmem, ⟨7, _⟩ => ⟨S400x32, .f32⟩
  | .local _ .vmem, ⟨8, _⟩ => ⟨S400x32, .f32⟩
  | .local _ .vmem, ⟨9, _⟩ => ⟨S400x10000, .i8⟩
  | .local _ .vmem, ⟨10, _⟩ => ⟨S400x10000, .i8⟩
  | .local _ .vmem, ⟨11, _⟩ => ⟨S400x10000, .i8⟩
  | .local _ .vmem, ⟨12, _⟩ => ⟨S400x10000, .i8⟩
  | .local _ .vmem, ⟨13, _⟩ => ⟨S10000x32, .f32⟩
  | .local _ .vmem, ⟨14, _⟩ => ⟨S400x32, .f32⟩
  | .local _ .vmem, ⟨15, _⟩ => ⟨S400x32, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev cc1_sem4_0 : DmaSem sig := 9
abbrev cc1_sem4_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v5e

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x10000 .i8 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .i8 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== KernelIdeal.lean ====
variable {F : FTy → Type} [FloatOps F] [Named F]
def κ : String → Option EReal := fun
  | "one_127th" => some ((1 / 127 : ℝ) : EReal)
  | "one_254th" => some ((1 / 254 : ℝ) : EReal)
  | _ => none
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32x16 : Shape := ⟨2, ![32, 16]⟩
abbrev S10000x32 : Shape := ⟨2, ![10000, 32]⟩
abbrev S_ : Shape := ⟨0, ![]⟩
abbrev S10000x16 : Shape := ⟨2, ![10000, 16]⟩

abbrev nBuf : Space → Nat
  | .hbm => 57
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32x16, .f32⟩
  | .hbm, ⟨4, _⟩ => ⟨S32x16, .f32⟩
  | .hbm, ⟨5, _⟩ => ⟨S10000x32, .f32⟩
  | .hbm, ⟨6, _⟩ => ⟨S10000x32, .f32⟩
  | .hbm, ⟨7, _⟩ => ⟨S_, .f32⟩
  | .hbm, ⟨8, _⟩ => ⟨S10000x32, .f32⟩
  | .hbm, ⟨9, _⟩ => ⟨S10000x32, .f32⟩
  | .hbm, ⟨10, _⟩ => ⟨S10000x16, .f32⟩
  | .hbm, ⟨11, _⟩ => ⟨S10000x16, .f32⟩
  | .hbm, ⟨12, _⟩ => ⟨S10000x32, .f32⟩
  | .hbm, ⟨13, _⟩ => ⟨S10000x32, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S10000x32, .f32⟩
  | .hbm, ⟨21, _⟩ => ⟨S10000x32, .f32⟩
  | .hbm, ⟨22, _⟩ => ⟨S10000x32, .f32⟩
  | .hbm, ⟨23, _⟩ => ⟨S_, .f32⟩
  | .hbm, ⟨24, _⟩ => ⟨S_, .f32⟩
  | .hbm, ⟨25, _⟩ => ⟨S10000x32, .f32⟩
  | .hbm, ⟨26, _⟩ => ⟨S10000x32, .f32⟩
  | .hbm, ⟨27, _⟩ => ⟨S10000x32, .f32⟩
  | .hbm, ⟨28, _⟩ => ⟨S10000x32, .f32⟩
  | .hbm, ⟨29, _⟩ => ⟨S10000x32, .f32⟩
  | .hbm, ⟨30, _⟩ => ⟨S10000x32, .f32⟩
  | .hbm, ⟨31, _⟩ => ⟨S_, .f32⟩
  | .hbm, ⟨32, _⟩ => ⟨S10000x10000, .f32⟩
  | .hbm, ⟨33, _⟩ => ⟨S10000x10000, .f32⟩
  | .hbm, ⟨34, _⟩ => ⟨S10000x10000, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S10000x10000, .f32⟩
  | .hbm, ⟨39, _⟩ => ⟨S10000x10000, .f32⟩
  | .hbm, ⟨40, _⟩ => ⟨S_, .f32⟩
  | .hbm, ⟨41, _⟩ => ⟨S10000x10000, .f32⟩
  | .hbm, ⟨42, _⟩ => ⟨S10000x10000, .f32⟩
  | .hbm, ⟨43, _⟩ => ⟨S_, .f32⟩
  | .hbm, ⟨44, _⟩ => ⟨S10000x10000, .f32⟩
  | .hbm, ⟨45, _⟩ => ⟨S10000x10000, .f32⟩
  | .hbm, ⟨46, _⟩ => ⟨S10000x32, .f32⟩
  | .hbm, ⟨47, _⟩ => ⟨S10000x32, .f32⟩
  | .hbm, ⟨48, _⟩ => ⟨S10000x32, .f32⟩
  | .hbm, ⟨49, _⟩ => ⟨S10000x32, .f32⟩
  | .hbm, ⟨50, _⟩ => ⟨S10000x32, .f32⟩
  | .hbm, ⟨51, _⟩ => ⟨S10000x32, .f32⟩
  | .hbm, ⟨52, _⟩ => ⟨S_, .f32⟩
  | .hbm, ⟨53, _⟩ => ⟨S10000x32, .f32⟩
  | .hbm, ⟨54, _⟩ => ⟨S10000x32, .f32⟩
  | .hbm, ⟨55, _⟩ => ⟨S10000x16, .f32⟩
  | .hbm, ⟨56, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_cst_6 : Ref sig .tc := ⟨.hbm, 36, rfl⟩
abbrev main_call3_v0 : Ref sig .tc := ⟨.hbm, 37, rfl⟩
abbrev main_call3_v1 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v5e

variable {F : FTy → Type} [FloatOps F]
-- ==== Proof.Frames.lean ====
/- The claims that say how the programs run and what the idealization rewrites: the three frames and the ledger. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Proof

open Idealize.ShloMosaic Idealize.SL.Sem

attribute [local instance] Cert.Kernel.Gen.facts Cert.KernelIdeal.Gen.facts Cert.ReferenceIdeal.Gen.facts

/-- The kernel runs to its end, keeps its arguments, and leaves every counter at zero. -/
theorem frame_kernel : Cert.quiescent_Kernel := fun m ρ _ => Cert.Kernel.Gen.frame m ρ

/-- So does its idealization. -/
theorem frame_ideal : Cert.quiescent_KernelIdeal := fun m ρ _ => Cert.KernelIdeal.Gen.frame m ρ

/-- So does the reference, which has no counters at all. -/
theorem frame_reference : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- The two rewrites of the idealization: the literals near 1/127 and 1/254 stand for those two fractions. -/
theorem ledger : Cert.preserves_Kernel_KernelIdeal :=
  ⟨IdealRules.named_const.statement Cert.KernelIdeal.κ "one_127th" .f32 0x3C010204#32 ((1 / 127 : ℝ) : EReal) rfl,
    IdealRules.named_const.statement Cert.KernelIdeal.κ "one_254th" .f32 0x3B810204#32 ((1 / 254 : ℝ) : EReal) rfl⟩

end Cert.Proof

end
-- ==== Proof.Launch.lean ====
/- The kernel's run, with what its two result arrays hold at the end: every unscoped array ends at the last boundary of the
   chain of segments, and the argument arrays are unchanged. The launch is set up as the frame's is; the final state is read
   at the two results as well. -/
module

public import proofs.«01_k».proof.Proof.Gen.KernelIdeal.Frame

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every weakly fair run of the kernel ends with the two results at the last boundary's contents and the arguments as
    they were launched. -/
theorem kernel_run : θ_run defs (onTc (τ := τ) (main (F := F))) ⟨m, fun _ => 0, ρ⟩ (fun r => ∀ c : Dev nD,
      r.2.mem ((c.tc : Thread nD τ).loc main_v4) = W5 m ρ c (Proc.devRef .tc main_v4)
      ∧ r.2.mem ((c.tc : Thread nD τ).loc main_v5) = W5 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hg; imodintro
      isplitl [Hg]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hg
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Harr, Hreg, Howe⟩
      isplitl [Harr Hreg]
      · isplitl [Harr] <;> iassumption
      iexact Howe⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Harr, -, Howe, -, Hreg, -⟩, -⟩
      imodintro
      isplitl [Harr]; · iexact Harr
      isplitl [Hreg]; · iexists _; iexact Hreg
      iexists ∅; iexact Howe)
    (QY := fun c s => ∀ b ∈ Pipeline.ucRefs τ sig, s.mem (((c : Thread nD τ)).1, b) = W5 m ρ c b)
    (hfin := fun c s' => by
      iintro ⟨⟨Harr, -⟩, Hst⟩
      unfold StableHlo.held
      imodintro
      iapply (pointsTo_read_all (Pipeline.ucRefs τ sig) (fun b => (((c : Thread nD τ)).1, b)) (W5 m ρ c) s')
      isplitl [Harr] <;> iassumption)
    (hQ := fun s h _ c =>
      ⟨h c _ (mem_uc main_v4 (by decide)),
       h c _ (mem_uc main_v5 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.Proof
-- ==== Proof.Rounding.lean ====
/- Rounding to the nearest integer: how far it moves a number, what it keeps within whole bounds, and the two
   quantisers built on it — the adjacency's code and the clamp into a signed byte. -/
module

public import Idealize.ShloMosaic.PureOps.Ideal
public import Mathlib.Tactic.Linarith
public import Mathlib.Tactic.NormNum

@[expose] public section

noncomputable section

namespace Cert.Proof

open Idealize.ShloMosaic

/-- Rounding of an extended real to the nearest integer, ties to even. -/
abbrev rnd : EReal → EReal := Ideal.liftRound Ideal.roundHalfEven

/-- Rounding moves a real by at most one half. -/
theorem round_near (r : ℝ) :
    (Ideal.roundHalfEven r : ℝ) - 1 / 2 ≤ r ∧ r ≤ (Ideal.roundHalfEven r : ℝ) + 1 / 2 := by
  have h1 := Int.floor_le r
  have h2 := Int.lt_floor_add_one r
  unfold Ideal.roundHalfEven
  dsimp only
  split_ifs <;> push_cast <;> constructor <;> linarith

/-- A real at most the whole number `n` rounds to at most `n`. -/
theorem round_le {r : ℝ} {n : ℤ} (h : r ≤ n) : Ideal.roundHalfEven r ≤ n := by
  have h1 := (round_near r).1
  by_contra hc
  have h2 : n + 1 ≤ Ideal.roundHalfEven r := by omega
  have h3 : (n : ℝ) + 1 ≤ Ideal.roundHalfEven r := by exact_mod_cast h2
  linarith

/-- A real at least the whole number `n` rounds to at least `n`. -/
theorem le_round {r : ℝ} {n : ℤ} (h : (n : ℝ) ≤ r) : n ≤ Ideal.roundHalfEven r := by
  have h1 := (round_near r).2
  by_contra hc
  have h2 : Ideal.roundHalfEven r + 1 ≤ n := by omega
  have h3 : (Ideal.roundHalfEven r : ℝ) + 1 ≤ n := by exact_mod_cast h2
  linarith

/-- Rounding fixes zero. -/
theorem rnd_zero : rnd 0 = 0 := by
  have h1 : Ideal.roundHalfEven 0 ≤ 0 := round_le (by norm_num)
  have h2 : 0 ≤ Ideal.roundHalfEven 0 := le_round (by norm_num)
  have h : Ideal.roundHalfEven 0 = 0 := le_antisymm h1 h2
  show Ideal.liftRound Ideal.roundHalfEven ((0 : ℝ) : EReal) = 0
  rw [Ideal.liftRound_coe, h]; simp

/-- A whole number within a signed byte converts to that byte. -/
theorem byte_of_int {z : ℤ} (h1 : -128 ≤ z) (h2 : z ≤ 127) : (Ideal.fptosi 8 ((z : ℝ) : EReal)).toInt = z := by
  rw [Ideal.fptosi, Ideal.toIntClamped_coe, Int.floor_intCast, Int.ceil_intCast, ite_self]
  have : max (-(2 ^ (8 - 1) : ℕ) : ℤ) (min ((2 ^ (8 - 1) : ℕ) - 1 : ℤ) z) = z := by
    norm_num; omega
  rw [this, BitVec.toInt_ofInt]
  apply Int.bmod_eq_of_le <;> omega

/-- The adjacency's code: scaled, rounded and clipped into 0 … 255. -/
def code (a : EReal) : EReal := min ((255 : ℝ) : EReal) (max 0 (rnd (a * ((2550000 : ℝ) : EReal))))

/-- The byte the first pass stores: scaled, rounded, shifted down by 128 and converted, saturating. -/
def codeByte (a : EReal) : BitVec 8 := Ideal.fptosi 8 (rnd (a * ((2550000 : ℝ) : EReal)) - ((128 : ℝ) : EReal))

/-- The stored byte, shifted back up, is the code: the saturating conversion is the clip, at the infinities too. -/
theorem code_eq (a : EReal) : code a = (((codeByte a).toInt + 128 : ℝ) : EReal) := by
  unfold code codeByte
  generalize a * ((2550000 : ℝ) : EReal) = x
  induction x with
  | bot =>
    have : Ideal.fptosi 8 (rnd ⊥ - ((128 : ℝ) : EReal)) = BitVec.ofInt 8 (-128) := by
      simp [Ideal.fptosi]
    rw [this, show (BitVec.ofInt 8 (-128)).toInt = -128 from by decide]
    simp
  | top =>
    have : Ideal.fptosi 8 (rnd ⊤ - ((128 : ℝ) : EReal)) = BitVec.ofInt 8 127 := by
      simp [Ideal.fptosi]
    rw [this, show (BitVec.ofInt 8 127).toInt = 127 from by decide]
    simp
    rw [← EReal.coe_add]
    norm_num
  | coe r =>
    simp only [rnd, Ideal.liftRound_coe]
    generalize Ideal.roundHalfEven r = n
    rw [← EReal.coe_sub, show ((n : ℝ) - 128) = ((n - 128 : ℤ) : ℝ) by push_cast; rfl]
    have h : Ideal.fptosi 8 (((n - 128 : ℤ) : ℝ) : EReal) = Ideal.fptosi 8 (((max (-128) (min 127 (n - 128)) : ℤ) : ℝ) : EReal) := by
      simp only [Ideal.fptosi, Ideal.toIntClamped_coe, Int.floor_intCast, Int.ceil_intCast, ite_self]
      congr 1
      norm_num
    rw [h, byte_of_int (by omega) (by omega), ← EReal.coe_zero,
      ← EReal.coe_strictMono.monotone.map_max, ← EReal.coe_strictMono.monotone.map_min]
    congr 1
    have h2 : min 255 (max 0 n) = max (-128) (min 127 (n - 128)) + 128 := by omega
    exact_mod_cast h2

end Cert.Proof
-- ==== Proof.Digits.lean ====
/- The two signed-byte digits of a matrix entry. The kernel multiplies by reciprocals where the reference divides; over the
   extended reals the digits agree, and each is a whole number between -127 and 127 once the entry's magnitude is at
   most the peak `m`. An infinite peak makes every digit zero on both sides. -/
module

public import proofs.«01_k».proof.Proof.Rounding
public import Mathlib.Tactic.FieldSimp
public import Mathlib.Tactic.Ring

@[expose] public section

noncomputable section

namespace Cert.Proof

open Idealize.ShloMosaic

/-- The first digit's step. -/
def stepHi (m : EReal) : EReal := Ideal.div m ((127 : ℝ) : EReal)
/-- The second digit's step. -/
def stepLo (m : EReal) : EReal := Ideal.div (stepHi m) ((254 : ℝ) : EReal)
/-- The first digit. -/
def digHi (m v : EReal) : EReal := rnd (Ideal.div v (stepHi m))
/-- The second digit, of what the first leaves. -/
def digLo (m v : EReal) : EReal := rnd (Ideal.div (v - digHi m v * stepHi m) (stepLo m))

/-- The kernel's first step, by a reciprocal. -/
theorem stepHi_mul (m : EReal) : m * ((1 / 127 : ℝ) : EReal) = stepHi m :=
  (Ideal.div_coe (by norm_num) m).symm

/-- The kernel's second step, by a reciprocal. -/
theorem stepLo_mul (m : EReal) : stepHi m * ((1 / 254 : ℝ) : EReal) = stepLo m :=
  (Ideal.div_coe (by norm_num) _).symm

/-- A real peak's first step. -/
theorem stepHi_coe (r : ℝ) : stepHi (r : EReal) = ((r / 127 : ℝ) : EReal) := by
  rw [stepHi, Ideal.div_coe (by norm_num), ← EReal.coe_mul]; congr 1; ring

/-- A real peak's second step. -/
theorem stepLo_coe (r : ℝ) : stepLo (r : EReal) = ((r / 127 / 254 : ℝ) : EReal) := by
  rw [stepLo, stepHi_coe, Ideal.div_coe (by norm_num), ← EReal.coe_mul]; congr 1; ring

/-- An infinite peak's first step. -/
theorem stepHi_top : stepHi ⊤ = ⊤ := by
  rw [← stepHi_mul]; exact EReal.top_mul_coe_of_pos (by norm_num)

/-- An infinite peak's second step. -/
theorem stepLo_top : stepLo ⊤ = ⊤ := by
  rw [← stepLo_mul, stepHi_top]; exact EReal.top_mul_coe_of_pos (by norm_num)

/-- Anything divided by plus infinity is zero. -/
theorem div_top (x : EReal) : Ideal.div x ⊤ = 0 := by
  rw [Ideal.div, if_neg EReal.top_ne_zero, EReal.inv_top, mul_zero]

theorem digHi_top (v : EReal) : digHi ⊤ v = 0 := by
  rw [digHi, stepHi_top, div_top, rnd_zero]

theorem digLo_top (v : EReal) : digLo ⊤ v = 0 := by
  rw [digLo, stepLo_top, div_top, rnd_zero]

/-- A positive peak is a positive real or plus infinity. -/
theorem pos_cases {m : EReal} (hm : 0 < m) : m = ⊤ ∨ ∃ r : ℝ, 0 < r ∧ m = r := by
  induction m with
  | bot => exact absurd hm (by simp)
  | top => exact .inl rfl
  | coe r => exact .inr ⟨r, by exact_mod_cast hm, rfl⟩

/-- The kernel's first digit is the reference's. -/
theorem digHi_mul {m : EReal} (hm : 0 < m) (v : EReal) : rnd (v * Ideal.div ((127 : ℝ) : EReal) m) = digHi m v := by
  rcases pos_cases hm with rfl | ⟨r, hr, rfl⟩
  · rw [div_top, mul_zero, rnd_zero, digHi_top]
  · rw [digHi, stepHi_coe, Ideal.div_coe hr.ne', Ideal.div_coe (by positivity), ← EReal.coe_mul]
    congr 3; field_simp

/-- The kernel's second digit is the reference's. -/
theorem digLo_mul {m : EReal} (hm : 0 < m) (v : EReal) :
    rnd ((v - digHi m v * stepHi m) * Ideal.div 1 (stepLo m)) = digLo m v := by
  rcases pos_cases hm with rfl | ⟨r, hr, rfl⟩
  · rw [stepLo_top, div_top, mul_zero, rnd_zero, digLo_top]
  · rw [digLo, stepLo_coe, Ideal.div_coe (by positivity), Ideal.div_coe (by positivity), one_mul]

/-- Both digits are whole numbers between -127 and 127. -/
theorem digits_int {m v : EReal} (hm : 0 < m) (hv : max v (-v) ≤ m) :
    (∃ z : ℤ, digHi m v = ((z : ℝ) : EReal) ∧ -127 ≤ z ∧ z ≤ 127)
      ∧ ∃ z : ℤ, digLo m v = ((z : ℝ) : EReal) ∧ -127 ≤ z ∧ z ≤ 127 := by
  rcases pos_cases hm with rfl | ⟨r, hr, rfl⟩
  · exact ⟨⟨0, by rw [digHi_top]; simp, by omega, by omega⟩, ⟨0, by rw [digLo_top]; simp, by omega, by omega⟩⟩
  · obtain ⟨h1, h2⟩ := max_le_iff.1 hv
    induction v with
    | bot => simp at h2
    | top => simp at h1
    | coe x =>
      have h1 : x ≤ r := by exact_mod_cast h1
      have h2 : -x ≤ r := by exact_mod_cast h2
      have hH : digHi (r : EReal) x = ((Ideal.roundHalfEven (x / (r / 127)) : ℝ) : EReal) := by
        rw [digHi, stepHi_coe, Ideal.div_coe (by positivity), ← EReal.coe_mul, rnd, Ideal.liftRound_coe]
        congr 4; field_simp
      refine ⟨⟨_, hH, le_round ?_, round_le ?_⟩, ?_⟩
      · rw [le_div_iff₀ (by positivity)]; push_cast; linarith
      · rw [div_le_iff₀ (by positivity)]; push_cast; linarith
      · have hn := round_near (x / (r / 127))
        generalize Ideal.roundHalfEven (x / (r / 127)) = n at hH hn
        have hx : x = x / (r / 127) * (r / 127) := by field_simp
        have hs : 0 < r / 127 := by positivity
        have hL : digLo (r : EReal) x = ((Ideal.roundHalfEven ((x - n * (r / 127)) / (r / 127 / 254)) : ℝ) : EReal) := by
          rw [digLo, hH, stepLo_coe, stepHi_coe, Ideal.div_coe (by positivity), ← EReal.coe_mul, ← EReal.coe_sub,
            ← EReal.coe_mul, rnd, Ideal.liftRound_coe]
          congr 4; rw [one_div]
        generalize x / (r / 127) = y at hn hx
        generalize r / 127 = s at hs hx hL
        refine ⟨_, hL, le_round ?_, round_le ?_⟩
        · rw [le_div_iff₀ (by positivity)]; push_cast; nlinarith [hn.1, hn.2]
        · rw [div_le_iff₀ (by positivity)]; push_cast; nlinarith [hn.1, hn.2]

end Cert.Proof
-- ==== Proof.Equation.lean ====
/- One entry of the second pass. The kernel sums products of stored bytes in whole numbers, corrects for the shift of 128 and
   scales at the end; the reference scales the codes and the digits first and sums the products. The two agree. -/
module

public import proofs.«01_k».proof.Proof.Digits

@[expose] public section

noncomputable section

namespace Cert.Proof

open Idealize.ShloMosaic

variable {ι : Type} [Fintype ι]

/-- The largest magnitude of an array, no less than a small positive floor. -/
def peak (lo fl : EReal) {κ : Type} [Fintype κ] (S : ι → κ → EReal) : EReal :=
  max (Finset.fold max lo (fun p : ι × κ => max (S p.1 p.2) (-(S p.1 p.2))) Finset.univ) fl

theorem peak_pos {lo fl : EReal} (h : 0 < fl) {κ : Type} [Fintype κ] (S : ι → κ → EReal) : 0 < peak lo fl S :=
  h.trans_le (le_max_right _ _)

/-- No entry's magnitude exceeds the peak. -/
theorem le_peak (lo fl : EReal) {κ : Type} [Fintype κ] (S : ι → κ → EReal) (i : ι) (k : κ) :
    max (S i k) (-(S i k)) ≤ peak lo fl S := by
  refine le_trans ?_ (le_max_left _ _)
  rw [Finset.le_fold_max]
  exact .inr ⟨(i, k), Finset.mem_univ _, le_rfl⟩

/-- A finite sum of reals, taken over the extended reals. -/
theorem coe_sum (f : ι → ℝ) : ((∑ j, f j : ℝ) : EReal) = ∑ j, ((f j : ℝ) : EReal) := by
  classical
  refine Finset.induction_on (Finset.univ : Finset ι) (by simp) fun a s ha ih => ?_
  rw [Finset.sum_insert ha, Finset.sum_insert ha, EReal.coe_add, ih]

/-- The whole-number dot product of a row of codes with a column of digits, as the matrix unit forms it. -/
def byteDot (q z : ι → BitVec 8) : ℤ := ∑ j, (q j).toInt * (z j).toInt

/-- The entry the kernel forms. -/
def kernelEntry (m : EReal) (a v : ι → EReal) : EReal :=
  max ((((byteDot (fun j => codeByte (a j)) (fun j => Ideal.fptosi 8 (digHi m (v j))) : ℝ) : EReal)
          + ((128 : ℝ) : EReal) * ∑ j, digHi m (v j)) * Ideal.div (stepHi m) ((2550000 : ℝ) : EReal)
      + (((byteDot (fun j => codeByte (a j)) (fun j => Ideal.fptosi 8 (digLo m (v j))) : ℝ) : EReal)
          + ((128 : ℝ) : EReal) * ∑ j, digLo m (v j)) * Ideal.div (stepLo m) ((2550000 : ℝ) : EReal)) 0

/-- The entry the reference forms. -/
def refEntry (m : EReal) (a v : ι → EReal) : EReal :=
  max (∑ j, Ideal.div (code (a j)) ((2550000 : ℝ) : EReal) * (digHi m (v j) * stepHi m + digLo m (v j) * stepLo m)) 0

/-- The kernel's entry is the reference's. -/
theorem entry_eq {m : EReal} (hm : 0 < m) (a v : ι → EReal) (hv : ∀ j, max (v j) (-(v j)) ≤ m) :
    kernelEntry m a v = refEntry m a v := by
  choose zh hzh bh using fun j => (digits_int hm (hv j)).1
  choose zl hzl bl using fun j => (digits_int hm (hv j)).2
  have eh : ∀ j, (Ideal.fptosi 8 ((zh j : ℝ) : EReal)).toInt = zh j := fun j =>
    byte_of_int (by have := bh j; omega) (by have := bh j; omega)
  have el : ∀ j, (Ideal.fptosi 8 ((zl j : ℝ) : EReal)).toInt = zl j := fun j =>
    byte_of_int (by have := bl j; omega) (by have := bl j; omega)
  unfold kernelEntry refEntry byteDot
  congr 1
  simp only [hzh, hzl, eh, el, code_eq]
  generalize hq : (fun j => (codeByte (a j)).toInt) = q
  have hq' : ∀ j, (codeByte (a j)).toInt = q j := fun j => by rw [← hq]
  simp only [hq']
  rcases pos_cases hm with rfl | ⟨r, hr, rfl⟩
  · have zh0 : ∀ j, zh j = 0 := fun j => by
      have := hzh j; rw [digHi_top] at this; exact_mod_cast this.symm
    have zl0 : ∀ j, zl j = 0 := fun j => by
      have := hzl j; rw [digLo_top] at this; exact_mod_cast this.symm
    simp [zh0, zl0]
  · simp only [stepHi_coe, stepLo_coe, Ideal.div_coe (show (2550000 : ℝ) ≠ 0 by norm_num), ← EReal.coe_mul, ← EReal.coe_add,
      ← coe_sum]
    congr 1
    push_cast
    generalize r / 127 = s
    rw [Finset.mul_sum, Finset.mul_sum, ← Finset.sum_add_distrib, ← Finset.sum_add_distrib, Finset.sum_mul, Finset.sum_mul,
      ← Finset.sum_add_distrib]
    refine Finset.sum_congr rfl fun j _ => ?_
    ring

/-- The precondition's total of magnitudes, over the reals, bounds the total of the bytes' products. -/
theorem byte_total {a z : ι → EReal} (hz : ∀ j, ∃ n : ℤ, z j = ((n : ℝ) : EReal) ∧ -127 ≤ n ∧ n ≤ 127)
    (h : ∑ j, max (code (a j) - ((128 : ℝ) : EReal)) (-(code (a j) - ((128 : ℝ) : EReal))) * max (z j) (-(z j))
      ≤ ((67108864 : ℝ) : EReal)) :
    ∑ j, ((codeByte (a j)).toInt * (Ideal.fptosi 8 (z j)).toInt).natAbs ≤ 67108864 := by
  choose n hn bn using hz
  have e : ∀ j, (Ideal.fptosi 8 (z j)).toInt = n j := fun j => by
    rw [hn]; exact byte_of_int (by have := bn j; omega) (by have := bn j; omega)
  have t : ∀ j, max (code (a j) - ((128 : ℝ) : EReal)) (-(code (a j) - ((128 : ℝ) : EReal))) * max (z j) (-(z j))
      = (((((codeByte (a j)).toInt * (Ideal.fptosi 8 (z j)).toInt).natAbs : ℕ) : ℝ) : EReal) := fun j => by
    rw [e, hn, code_eq, ← EReal.coe_sub, ← EReal.coe_neg, ← EReal.coe_neg, ← EReal.coe_strictMono.monotone.map_max,
      ← EReal.coe_strictMono.monotone.map_max, ← EReal.coe_mul]
    congr 1
    rw [add_sub_cancel_right]
    show |((codeByte (a j)).toInt : ℝ)| * |(n j : ℝ)| = _
    rw [Nat.cast_natAbs, ← abs_mul]
    push_cast
    rfl
  simp only [t, ← coe_sum] at h
  have h : ∑ j, ((((codeByte (a j)).toInt * (Ideal.fptosi 8 (z j)).toInt).natAbs : ℕ) : ℝ) ≤ 67108864 := by exact_mod_cast h
  exact_mod_cast h

end Cert.Proof
-- ==== Proof.Numbers.lean ====
/- The float constants the two programs carry, as the real numbers they stand for at the ideal floats. -/
module

public import Idealize.ShloMosaic.PureOps.Ideal
public import Idealize.ShloMosaic.PureOps.Ideal.Laws
public import Idealize.ShloMosaic.Lib.IdealHost

@[expose] public section

noncomputable section

namespace Cert.Proof

open Idealize.ShloMosaic

/-- The adjacency's scale, 255 · 10000. -/
theorem lit_scale : Ideal.ofBits .f32 0x4A1BA3C0#32 = ((2550000 : ℝ) : EReal) := by
  simp [Ideal.ofBits, Ideal.ieee, ← EReal.coe_mul]; norm_num
/-- The shift between the unsigned and the signed code. -/
theorem lit_128 : Ideal.ofBits .f32 0x43000000#32 = ((128 : ℝ) : EReal) := by
  simp [Ideal.ofBits, Ideal.ieee, ← EReal.coe_mul]; norm_num
/-- The largest digit. -/
theorem lit_127 : Ideal.ofBits .f32 0x42FE0000#32 = ((127 : ℝ) : EReal) := by
  simp [Ideal.ofBits, Ideal.ieee, ← EReal.coe_mul]; norm_num
/-- The ratio of the two digits' scales. -/
theorem lit_254 : Ideal.ofBits .f32 0x437E0000#32 = ((254 : ℝ) : EReal) := by
  simp [Ideal.ofBits, Ideal.ieee, ← EReal.coe_mul]; norm_num
/-- The largest unsigned code. -/
theorem lit_255 : Ideal.ofBits .f32 0x437F0000#32 = ((255 : ℝ) : EReal) := by
  simp [Ideal.ofBits, Ideal.ieee, ← EReal.coe_mul]; norm_num
/-- The matrix unit's bound on the products' total, 2 to the 26th. -/
theorem lit_bound : Ideal.ofBits .f32 0x4C800000#32 = ((67108864 : ℝ) : EReal) := by
  simp [Ideal.ofBits, Ideal.ieee, ← EReal.coe_mul]; norm_num
/-- Plus infinity. -/
theorem lit_top : Ideal.ofBits .f32 0x7F800000#32 = ⊤ := by
  simp [Ideal.ofBits, Ideal.ieee]
/-- The floor put under the largest magnitude is positive. -/
theorem lit_floor_pos : 0 < Ideal.ofBits .f32 0x0DA24260#32 := by
  simp [Ideal.ofBits, Ideal.ieee, ← EReal.coe_mul]

end Cert.Proof
-- ==== Proof.Payloads.lean ====
/- What each region's body computes, read at an index: the first pass's bytes and rows, and the second pass's digits and
   entries. -/
module

public import proofs.«01_k».proof.Proof.Gen.KernelIdeal.Skeleton
public import proofs.«01_k».proof.Proof.Equation
public import proofs.«01_k».proof.Proof.Numbers
public import Idealize.ShloMosaic.Lib.Pointwise
public import Idealize.ShloMosaic.Lib.IntMxu
public import Idealize.ShloMosaic.Lib.MatmulPlain
public import Idealize.ShloMosaic.PureOps.IdealRules

@[expose] public section

set_option maxRecDepth 16384

noncomputable section

namespace Cert.Proof

open Cert.KernelIdeal Cert.KernelIdeal.Gen
open Idealize.ShloMosaic

/-- The peak of an array of 10000 rows of 32. -/
abbrev peakOf (S : Fin 10000 → Fin 32 → EReal) : EReal :=
  peak (Ideal.ofBits .f32 0xFF800000#32) (Ideal.ofBits .f32 0x0DA24260#32) S

theorem peakOf_pos (S : Fin 10000 → Fin 32 → EReal) : 0 < peakOf S := peak_pos lit_floor_pos S

/-- An array's entries by row and column. -/
abbrev ent {M N : ℕ} (A : (⟨2, ![M, N]⟩ : Shape).Idx → EReal) (i : Fin M) (k : Fin N) : EReal := A (ix2 i k)

/-- The first pass stores each adjacency entry's byte. -/
theorem bytes_at (x : FVec Ideal S400x10000 .f32) (j : S400x10000.Idx) : k1_pay1 (F := Ideal) x j = codeByte (x j) := by
  pointwise [k1_pay1]
  rw [lit_scale, lit_128]
  rfl

/-- A magnitude at the ideal floats. -/
theorem mag_eq (y : EReal) : FloatOps.absf (F := Ideal) (φ := .f32) y = max y (-y) := rfl

/-- The peak, as the body forms it: any property of the formula holds of the body's number. -/
theorem peak_form (x : FVec Ideal S10000x32 .f32) (P : EReal → Prop)
    (h : P (max
      (Finset.fold max (Ideal.ofBits FTy.f32 0xFF800000#32)
        (fun p : Fin 10000 × Fin 32 => FloatOps.absf (F := Ideal) (φ := .f32) (x (ix2 p.1 p.2))) Finset.univ)
      (Ideal.ofBits FTy.f32 0x0DA24260#32))) : P (k2_pay3 (F := Ideal) x) := by
  pointwise [k2_pay3, k2_pay2]
  exact h

/-- That formula is the peak. -/
theorem peak_read {a b : ℕ} (lo fl : EReal) (S : Fin a → Fin b → EReal) :
    max (Finset.fold max lo (fun p : Fin a × Fin b => FloatOps.absf (F := Ideal) (φ := .f32) (S p.1 p.2)) Finset.univ) fl
      = peak lo fl S := rfl

/-- The second pass's peak. -/
theorem peak_at (x : FVec Ideal S10000x32 .f32) : k2_pay3 (F := Ideal) x = peakOf (ent x) :=
  peak_form x (fun z => z = peakOf (ent x)) (peak_read _ _ (ent x))

/-- The first step's product at any peak. -/
theorem stepHi_form (m : EReal) :
    Scalar.mulf (F := Ideal) (φ := .f32) m (Named.named (F := Ideal) Cert.KernelIdeal.κ "one_127th" (φ := .f32) 0x3C010204#32)
      = stepHi m := by
  rw [show (Named.named (F := Ideal) Cert.KernelIdeal.κ "one_127th" (φ := .f32) 0x3C010204#32) = ((1 / 127 : ℝ) : EReal)
    from IdealRules.named_const.ideal_named_scalar _ _ _ _ rfl]
  exact stepHi_mul m

/-- The second step's product at any peak. -/
theorem stepLo_form (m : EReal) :
    Scalar.mulf (F := Ideal) (φ := .f32) (stepHi m)
        (Named.named (F := Ideal) Cert.KernelIdeal.κ "one_254th" (φ := .f32) 0x3B810204#32)
      = stepLo m := by
  rw [show (Named.named (F := Ideal) Cert.KernelIdeal.κ "one_254th" (φ := .f32) 0x3B810204#32) = ((1 / 254 : ℝ) : EReal)
    from IdealRules.named_const.ideal_named_scalar _ _ _ _ rfl]
  exact stepLo_mul m

/-- The first step's formula in the body. -/
theorem stepHi_open (x : FVec Ideal S10000x32 .f32) :
    k2_pay4 (F := Ideal) x = Scalar.mulf (F := Ideal) (φ := .f32) (k2_pay3 x)
      (Named.named (F := Ideal) Cert.KernelIdeal.κ "one_127th" (φ := .f32) 0x3C010204#32) := by
  unfold k2_pay4
  with_reducible rfl

/-- The second step's formula in the body. -/
theorem stepLo_open (x : FVec Ideal S10000x32 .f32) :
    k2_pay6 (F := Ideal) x = Scalar.mulf (F := Ideal) (φ := .f32) (k2_pay4 x)
      (Named.named (F := Ideal) Cert.KernelIdeal.κ "one_254th" (φ := .f32) 0x3B810204#32) := by
  unfold k2_pay6
  with_reducible rfl

/-- The second pass's first step. -/
theorem stepHi_at (x : FVec Ideal S10000x32 .f32) : k2_pay4 (F := Ideal) x = stepHi (peakOf (ent x)) := by
  rw [stepHi_open, stepHi_form, peak_at]

/-- The second pass's second step. -/
theorem stepLo_at (x : FVec Ideal S10000x32 .f32) : k2_pay6 (F := Ideal) x = stepLo (peakOf (ent x)) := by
  rw [stepLo_open, stepHi_at, stepLo_form]

/-- The first digit at any peak, as the body forms it. -/
theorem digHi_form {m : EReal} (hm : 0 < m) (x : FVec Ideal S10000x32 .f32) (j : S10000x32.Idx) :
    roundeven (mulf (k2_pay2 x) (broadcast S10000x32 (Scalar.divf (F := Ideal) (φ := .f32) (Scalar.ofBits .f32 0x42FE0000#32) m))) j
      = digHi m (x j) := by
  rw [← digHi_mul hm, ← lit_127]
  pointwise [k2_pay2]

/-- The second pass's peak is positive. -/
theorem peak_at_pos (x : FVec Ideal S10000x32 .f32) : 0 < k2_pay3 (F := Ideal) x := by
  rw [peak_at]; exact peakOf_pos (ent x)

/-- The first digit's formula in the body. -/
theorem digHi_open (x : FVec Ideal S10000x32 .f32) (j : S10000x32.Idx) :
    k2_pay5 (F := Ideal) x j
      = roundeven (mulf (k2_pay2 x) (broadcast S10000x32
          (Scalar.divf (F := Ideal) (φ := .f32) (Scalar.ofBits .f32 0x42FE0000#32) (k2_pay3 x)))) j := by
  unfold k2_pay5
  with_reducible rfl

/-- The second pass's first digit. -/
theorem digHi_at (x : FVec Ideal S10000x32 .f32) (j : S10000x32.Idx) :
    k2_pay5 (F := Ideal) x j = digHi (peakOf (ent x)) (x j) := by
  rw [digHi_open, digHi_form (peak_at_pos x), peak_at]

/-- The second pass's second digit. -/
theorem digLo_at (x : FVec Ideal S10000x32 .f32) (j : S10000x32.Idx) :
    k2_pay7 (F := Ideal) x j = digLo (peakOf (ent x)) (x j) := by
  have hp := peakOf_pos (ent x)
  have hd := digHi_at x j
  unfold k2_pay7 k2_pay2
  rw [stepHi_at, stepLo_at]
  generalize k2_pay5 (F := Ideal) x = d at hd ⊢
  generalize peakOf (ent x) = m at hp hd ⊢
  rw [← digLo_mul hp, ← hd]
  pointwise

end Cert.Proof
-- ==== Proof.Host.lean ====
/- The reference's arithmetic in parts, each read at an index: the joined second support, its peak, the two digits of an
   entry, an adjacency entry's code, and an entry of the result. The later parts take the support and the peak as they
   come, so that no reading has to open them. -/
module

public import proofs.«01_k».proof.Proof.Gen.ReferenceIdeal
public import proofs.«01_k».proof.Proof.Payloads

@[expose] public section

set_option maxRecDepth 16384

noncomputable section

namespace Cert.Proof.Plain

open Cert.ReferenceIdeal Cert.ReferenceIdeal.Gen
open Idealize.ShloMosaic

/-- The first support of the reference. -/
def firstVec (x : FVec Ideal S10000x128 .f32) (w1 : FVec Ideal S128x32 .f32) : FVec Ideal S10000x32 .f32 :=
  Host.dotGeneral dot_S10000x128_S128x32_S10000x32_1_0_0_1_n_n none x w1

/-- The hidden layer of the reference. -/
def hiddenVec (a : FVec Ideal S10000x10000 .f32) (s : FVec Ideal S10000x32 .f32) : FVec Ideal S10000x32 .f32 :=
  maximumf (Host.dotGeneral dot_S10000x10000_S10000x32_S10000x32_1_0_0_1_n_n none a s)
    (broadcastInDim S10000x32 ![] bcast_S_S10000x32 (constant S_ .f32 0x00000000#32))

/-- The two products of the hidden layer, side by side. -/
def joinVec (h : FVec Ideal S10000x32 .f32) (w2 w3 : FVec Ideal S32x16 .f32) : FVec Ideal S10000x32 .f32 :=
  concatenate S10000x32 1
    [⟨S10000x16, Host.dotGeneral dot_S10000x32_S32x16_S10000x16_1_0_0_1_n_n none h w2⟩,
     ⟨S10000x16, Host.dotGeneral dot_S10000x32_S32x16_S10000x16_1_0_0_1_n_n none h w3⟩]
    concatenates_S10000x16_S10000x16_S10000x32_d1

/-- The second support of the reference. -/
def supVec (x : FVec Ideal S10000x128 .f32) (a : FVec Ideal S10000x10000 .f32) (w1 : FVec Ideal S128x32 .f32)
    (w2 w3 : FVec Ideal S32x16 .f32) : FVec Ideal S10000x32 .f32 :=
  joinVec (hiddenVec a (firstVec x w1)) w2 w3

/-- The peak of the second support. -/
def peakVec (s : FVec Ideal S10000x32 .f32) : FVec Ideal S_ .f32 :=
  maximumf (Host.reduce FloatOps.maximumf (Host.absf s) (constant S_ .f32 0xFF800000#32) reducesTo_S10000x32_S_d0_1 h_S_)
    (constant S_ .f32 0x0DA24260#32)

/-- The step of the first digit. -/
def hiStep (p : FVec Ideal S_ .f32) : FVec Ideal S_ .f32 := Host.divf p (constant S_ .f32 0x42FE0000#32)

/-- The step of the second digit. -/
def loStep (p : FVec Ideal S_ .f32) : FVec Ideal S_ .f32 := Host.divf (hiStep p) (constant S_ .f32 0x437E0000#32)

/-- The first digits. -/
def hiVec (s : FVec Ideal S10000x32 .f32) (p : FVec Ideal S_ .f32) : FVec Ideal S10000x32 .f32 :=
  Host.roundeven (Host.divf s (broadcastInDim S10000x32 ![] bcast_S_S10000x32 (hiStep p)))

/-- The second digits. -/
def loVec (s : FVec Ideal S10000x32 .f32) (p : FVec Ideal S_ .f32) : FVec Ideal S10000x32 .f32 :=
  Host.roundeven (Host.divf (subf s (mulf (hiVec s p) (broadcastInDim S10000x32 ![] bcast_S_S10000x32 (hiStep p))))
    (broadcastInDim S10000x32 ![] bcast_S_S10000x32 (loStep p)))

/-- The adjacency's codes. -/
def codeVec (a : FVec Ideal S10000x10000 .f32) : FVec Ideal S10000x10000 .f32 :=
  minimumf (broadcastInDim S10000x10000 ![] bcast_S_S10000x10000 (id (constant S_ .f32 0x437F0000#32)))
    (maximumf (broadcastInDim S10000x10000 ![] bcast_S_S10000x10000 (id (constant S_ .f32 0x00000000#32)))
      (Host.roundeven (mulf a (broadcastInDim S10000x10000 ![] bcast_S_S10000x10000 (constant S_ .f32 0x4A1BA3C0#32)))))

/-- The result, both halves side by side. -/
def outVec (a : FVec Ideal S10000x10000 .f32) (s : FVec Ideal S10000x32 .f32) (p : FVec Ideal S_ .f32) :
    FVec Ideal S10000x32 .f32 :=
  maximumf
    (Host.dotGeneral dot_S10000x10000_S10000x32_S10000x32_1_0_0_1_n_n none
      (Host.divf (codeVec a) (broadcastInDim S10000x10000 ![] bcast_S_S10000x10000 (constant S_ .f32 0x4A1BA3C0#32)))
      (addf (mulf (hiVec s p) (broadcastInDim S10000x32 ![] bcast_S_S10000x32 (hiStep p)))
        (mulf (loVec s p) (broadcastInDim S10000x32 ![] bcast_S_S10000x32 (loStep p)))))
    (broadcastInDim S10000x32 ![] bcast_S_S10000x32 (constant S_ .f32 0x00000000#32))

theorem firstVec_at (x : FVec Ideal S10000x128 .f32) (w1 : FVec Ideal S128x32 .f32) (j : S10000x32.Idx) :
    firstVec x w1 j = ∑ k : Fin 128, x (ix2 (j 0) k) * w1 (ix2 k (j 1)) := by
  pointwise [firstVec]

theorem hiddenVec_at (a : FVec Ideal S10000x10000 .f32) (s : FVec Ideal S10000x32 .f32) (j : S10000x32.Idx) :
    hiddenVec a s j = max (∑ l : Fin 10000, a (ix2 (j 0) l) * s (ix2 l (j 1))) 0 := by
  pointwise [hiddenVec]

/-- The first sixteen columns are the second weights', the rest the third weights'. -/
theorem joinVec_at (h : FVec Ideal S10000x32 .f32) (w2 w3 : FVec Ideal S32x16 .f32) (j : S10000x32.Idx) :
    joinVec h w2 w3 j = if lt : (j 1).val < 16
      then ∑ k : Fin 32, h (ix2 (j 0) k) * w2 (ix2 k ⟨(j 1).val, lt⟩)
      else ∑ k : Fin 32, h (ix2 (j 0) k) * w3 (ix2 k ⟨(j 1).val - 16, by have := (j 1).isLt; simp at this; omega⟩) := by
  pointwise [joinVec]

/-- The same readings, the peak's value given. -/
theorem hiVec_at (s : FVec Ideal S10000x32 .f32) (p : FVec Ideal S_ .f32) (j : S10000x32.Idx) (q : EReal)
    (hp : p ix0 = q) : hiVec s p j = digHi q (s j) := by
  pointwise [hiVec, hiStep]
  rw [hp, lit_127]
  rfl

theorem loVec_at (s : FVec Ideal S10000x32 .f32) (p : FVec Ideal S_ .f32) (j : S10000x32.Idx) (q : EReal)
    (hp : p ix0 = q) : loVec s p j = digLo q (s j) := by
  pointwise [loVec, loStep, hiStep, hiVec]
  rw [hp, lit_127, lit_254]
  rfl

theorem codeVec_at (a : FVec Ideal S10000x10000 .f32) (j : S10000x10000.Idx) : codeVec a j = code (a j) := by
  pointwise [codeVec]
  show min (Ideal.ofBits .f32 0x437F0000#32) (max (Ideal.ofBits .f32 0x00000000#32) (Ideal.liftRound Ideal.roundHalfEven (a j * Ideal.ofBits .f32 0x4A1BA3C0#32))) = _
  rw [lit_255, lit_scale, Ideal.ofBits_zero]
  rfl

/-- The result of any array of products: the reference's last lines with the codes and the two digits taken as they come. -/
def rawVec (q : FVec Ideal S10000x10000 .f32) (hi lo : FVec Ideal S10000x32 .f32) (p : FVec Ideal S_ .f32) :
    FVec Ideal S10000x32 .f32 :=
  maximumf
    (Host.dotGeneral dot_S10000x10000_S10000x32_S10000x32_1_0_0_1_n_n none
      (Host.divf q (broadcastInDim S10000x10000 ![] bcast_S_S10000x10000 (constant S_ .f32 0x4A1BA3C0#32)))
      (addf (mulf hi (broadcastInDim S10000x32 ![] bcast_S_S10000x32 (hiStep p)))
        (mulf lo (broadcastInDim S10000x32 ![] bcast_S_S10000x32 (loStep p)))))
    (broadcastInDim S10000x32 ![] bcast_S_S10000x32 (constant S_ .f32 0x00000000#32))

theorem rawVec_at (q : FVec Ideal S10000x10000 .f32) (hi lo : FVec Ideal S10000x32 .f32) (p : FVec Ideal S_ .f32)
    (r : EReal) (hp : p ix0 = r) (j : S10000x32.Idx) :
    rawVec q hi lo p j = max (∑ l : Fin 10000, Ideal.div (q (ix2 (j 0) l)) ((2550000 : ℝ) : EReal)
      * (hi (ix2 l (j 1)) * stepHi r + lo (ix2 l (j 1)) * stepLo r)) 0 := by
  pointwise [rawVec, hiStep, loStep]
  rw [hp, lit_127, lit_254, lit_scale]
  rfl

/-- An entry of the reference's result. -/
theorem outVec_at (a : FVec Ideal S10000x10000 .f32) (s : FVec Ideal S10000x32 .f32) (p : FVec Ideal S_ .f32)
    (r : EReal) (hp : p ix0 = r) (j : S10000x32.Idx) :
    outVec a s p j = refEntry r (fun l => a (ix2 (j 0) l)) (fun l => s (ix2 l (j 1))) := by
  rw [show outVec a s p = rawVec (codeVec a) (hiVec s p) (loVec s p) p from by unfold outVec rawVec; with_reducible rfl,
    rawVec_at _ _ _ _ r hp]
  simp only [codeVec_at, hiVec_at s p _ r hp, loVec_at s p _ r hp]
  rfl

/-- The largest of an array's entries and a starting number, at any sizes. -/
theorem reduce_max_at {n0 n1 : ℕ} (x : FVec Ideal ⟨2, ![n0, n1]⟩ .f32) (init : FVec Ideal S_ .f32)
    (h : (⟨2, ![n0, n1]⟩ : Shape).ReducesTo [0, 1] S_) (h' : 0 < S_.numel) :
    Host.reduce FloatOps.maximumf x init h h' ix0
      = Finset.fold max (init ix0) (fun p : Fin n0 × Fin n1 => x (ix2 p.1 p.2)) Finset.univ := by
  pointwise
  rw [show Shape.Idx.first h' = (ix0 : S_.Idx) from funext fun k => k.elim0]

/-- A larger of two numbers, and a magnitude, at an index. -/
theorem larger_at {s : Shape} (u v : FVec Ideal s .f32) (j : s.Idx) : maximumf u v j = max (u j) (v j) := by
  pointwise

/-- The reference's peak in two steps, at any sizes. -/
theorem peak_of_parts {n0 n1 : ℕ} (x : FVec Ideal ⟨2, ![n0, n1]⟩ .f32) (init fl : FVec Ideal S_ .f32)
    (h : (⟨2, ![n0, n1]⟩ : Shape).ReducesTo [0, 1] S_) (h' : 0 < S_.numel) :
    maximumf (Host.reduce FloatOps.maximumf (Host.absf x) init h h') fl ix0 = peak (init ix0) (fl ix0) (ent x) := by
  rw [larger_at, reduce_max_at]
  rfl

/-- The reference's peak. -/
theorem peakVec_at (s : FVec Ideal S10000x32 .f32) : peakVec s ix0 = peakOf (ent s) := by
  unfold peakVec
  exact peak_of_parts s _ _ _ _

end Cert.Proof.Plain

end
-- ==== Proof.ByteProduct.lean ====
/- The second pass's product of bytes on the matrix unit: each word is the whole-number dot product of a row of stored bytes
   with a column of digits, as long as the products' magnitudes total at most the unit's bound. -/
module

public import proofs.«01_k».proof.Proof.Payloads

@[expose] public section

set_option maxRecDepth 16384

noncomputable section

namespace Cert.Proof

open Cert.KernelIdeal Cert.KernelIdeal.Gen
open Idealize.ShloMosaic

/-- A sum over a plain product's contraction, by its one coordinate. -/
theorem plain_sum {R : Type} [AddCommMonoid R] {M K N : ℕ} (f : (⟨2, ![M, K]⟩ : Shape).Idx → (⟨2, ![K, N]⟩ : Shape).Idx → R)
    (r : Fin M) (c : Fin N) :
    ∑ k : (DotDims.plain M K N).contr.Idx, f ((DotDims.plain M K N).lhsIdx (ix2 r c) k) ((DotDims.plain M K N).rhsIdx (ix2 r c) k)
      = ∑ k : Fin K, f (ix2 r k) (ix2 k c) := by
  rw [← Equiv.sum_comp (DotDims.plainContr M K N).symm]
  refine Finset.sum_congr rfl fun k _ => ?_
  have hk := ValueIdx.contrEquiv1_symm_val _ K (DotDims.plain_contr_rank M K N) (DotDims.plain_contr_size M K N) k
  congr 1
  · funext a; apply Fin.ext
    match a with
    | ⟨0, _⟩ => rfl
    | ⟨1, _⟩ => exact hk
  · funext a; apply Fin.ext
    match a with
    | ⟨0, _⟩ => exact hk
    | ⟨1, _⟩ => rfl

/-- The matrix unit's word read as a whole number. -/
theorem word_at {M K N : ℕ} (q : IVec ⟨2, ![M, K]⟩ 8) (z : IVec ⟨2, ![K, N]⟩ 8) (r : Fin M) (c : Fin N)
    (h : ∑ k : Fin K, ((q (ix2 r k)).toInt * (z (ix2 k c)).toInt).natAbs ≤ 67108864) :
    (matmulI8 IntMxuNumerics.v5e (DotDims.plain M K N) q z (fun _ => 0#32) (ix2 r c)).toInt
      = byteDot (fun k => q (ix2 r k)) (fun k => z (ix2 k c)) := by
  rw [matmulI8_toInt _ _ _ _ _ _ rfl]
  · exact plain_sum (fun a b => (q a).toInt * (z b).toInt) r c
  · refine le_of_eq_of_le ?_ h
    exact plain_sum (fun a b => ((q a).toInt * (z b).toInt).natAbs) r c

/-- The digits' bytes, the first digits in columns 0 to 31 and the second ones in columns 32 to 63. -/
theorem digit_byte (d e : FVec Ideal S10000x32 .f32) (k : Fin 10000) (c : Fin 64) :
    fptosi (F := Ideal) 8 (concatenate S10000x64 1 [⟨S10000x32, d⟩, ⟨S10000x32, e⟩] concatenates_S10000x32_S10000x32_S10000x64_d1) (ix2 k c)
      = Ideal.fptosi 8 (if h : c.val < 32 then d (ix2 k ⟨c.val, h⟩) else e (ix2 k ⟨c.val - 32, by omega⟩)) := by
  pointwise
  rfl

/-- The product at an index. -/
theorem product_form (d e : FVec Ideal S10000x32 .f32) (q : IVec S400x10000 8) (r : Fin 400) (c : Fin 64) :
    sitofp (F := Ideal) .f32 (matmulI8 IntMxuNumerics.v5e dot_S400x10000_S10000x64_S400x64_1_0_0_1_n_n
        (shapeCast S400x10000 q shapeCasts_S400x10000_S400x10000)
        (fptosi (F := Ideal) (φ := .f32) 8 (concatenate S10000x64 1 [⟨S10000x32, d⟩, ⟨S10000x32, e⟩] concatenates_S10000x32_S10000x32_S10000x64_d1))
        (constantI S400x64 32 0#32)) (ix2 r c)
      = (((matmulI8 IntMxuNumerics.v5e (DotDims.plain 400 10000 64) q
        (fptosi (F := Ideal) (φ := .f32) 8 (concatenate S10000x64 1 [⟨S10000x32, d⟩, ⟨S10000x32, e⟩] concatenates_S10000x32_S10000x32_S10000x64_d1))
        (fun _ => 0#32) (ix2 r c)).toInt : ℝ) : EReal) := by
  pointwise
  rfl

/-- The product's formula in the body. -/
theorem product_open (x : FVec Ideal S10000x32 .f32) (q : IVec S400x10000 8) :
    k2_pay8 (F := Ideal) x q = sitofp (F := Ideal) .f32 (matmulI8 IntMxuNumerics.v5e dot_S400x10000_S10000x64_S400x64_1_0_0_1_n_n
        (shapeCast S400x10000 q shapeCasts_S400x10000_S400x10000)
        (fptosi (F := Ideal) (φ := .f32) 8 (concatenate S10000x64 1 [⟨S10000x32, k2_pay5 x⟩, ⟨S10000x32, k2_pay7 x⟩]
          concatenates_S10000x32_S10000x32_S10000x64_d1))
        (constantI S400x64 32 0#32)) := by
  unfold k2_pay8
  with_reducible rfl

/-- A word of the product, whichever digits its column holds. -/
theorem product_at (x : FVec Ideal S10000x32 .f32) (q : IVec S400x10000 8) (r : Fin 400) (c : Fin 64)
    (z : Fin 10000 → EReal)
    (hz : ∀ j, (if h : c.val < 32 then k2_pay5 (F := Ideal) x (ix2 j ⟨c.val, h⟩)
      else k2_pay7 (F := Ideal) x (ix2 j ⟨c.val - 32, by omega⟩)) = z j)
    (h : ∑ j, ((q (ix2 r j)).toInt * (Ideal.fptosi 8 (z j)).toInt).natAbs ≤ 67108864) :
    k2_pay8 (F := Ideal) x q (ix2 r c)
      = ((byteDot (fun j => q (ix2 r j)) (fun j => Ideal.fptosi 8 (z j)) : ℝ) : EReal) := by
  rw [product_open, product_form]
  generalize k2_pay5 (F := Ideal) x = d at hz ⊢
  generalize k2_pay7 (F := Ideal) x = e at hz ⊢
  have hb : ∀ j, fptosi (F := Ideal) (φ := .f32) 8 (concatenate S10000x64 1 [⟨S10000x32, d⟩, ⟨S10000x32, e⟩]
      concatenates_S10000x32_S10000x32_S10000x64_d1) (ix2 j c) = Ideal.fptosi 8 (z j) := fun j => by
    rw [digit_byte, hz]
  rw [word_at]
  · simp only [hb]
  · simp only [hb]; exact h

/-- An entry of the result, from the words, the digits and the steps. -/
theorem entry_open (x : FVec Ideal S10000x32 .f32) (q : IVec S400x10000 8) (r : Fin 400) (k : Fin 32) :
    k2_pay1 (F := Ideal) (k2_pay6 x) (k2_pay9 x q) (k2_pay10 x q) (k2_pay11 x) (ix2 r k)
      = max ((k2_pay8 (F := Ideal) x q (ix2 r ⟨k.val, by omega⟩) + ((128 : ℝ) : EReal) * ∑ j, k2_pay5 (F := Ideal) x (ix2 j k))
            * Ideal.div (k2_pay4 (F := Ideal) x) ((2550000 : ℝ) : EReal)
          + (k2_pay8 (F := Ideal) x q (ix2 r ⟨32 + k.val, by omega⟩) + ((128 : ℝ) : EReal) * ∑ j, k2_pay7 (F := Ideal) x (ix2 j k))
            * Ideal.div (k2_pay6 (F := Ideal) x) ((2550000 : ℝ) : EReal)) 0 := by
  unfold k2_pay1 k2_pay9 k2_pay10 k2_pay11
  generalize k2_pay8 (F := Ideal) x q = P
  generalize k2_pay4 (F := Ideal) x = a
  generalize k2_pay6 (F := Ideal) x = b
  generalize k2_pay5 (F := Ideal) x = d
  generalize k2_pay7 (F := Ideal) x = e
  rw [← lit_128, ← lit_scale]
  pointwise

/-- An entry of the result: the kernel's formula, under the bound on both digits' totals. -/
theorem entry_at (x : FVec Ideal S10000x32 .f32) (q : IVec S400x10000 8) (a : Fin 10000 → EReal) (r : Fin 400) (k : Fin 32)
    (hq : ∀ j, q (ix2 r j) = codeByte (a j))
    (hH : ∑ j, ((codeByte (a j)).toInt * (Ideal.fptosi 8 (digHi (peakOf (ent x)) (x (ix2 j k)))).toInt).natAbs ≤ 67108864)
    (hL : ∑ j, ((codeByte (a j)).toInt * (Ideal.fptosi 8 (digLo (peakOf (ent x)) (x (ix2 j k)))).toInt).natAbs ≤ 67108864) :
    k2_pay1 (F := Ideal) (k2_pay6 x) (k2_pay9 x q) (k2_pay10 x q) (k2_pay11 x) (ix2 r k)
      = kernelEntry (peakOf (ent x)) a (fun j => x (ix2 j k)) := by
  rw [entry_open,
    product_at x q r ⟨k.val, by omega⟩ (fun j => digHi (peakOf (ent x)) (x (ix2 j k)))
      (fun j => by rw [dif_pos (show k.val < 32 from k.isLt)]; exact digHi_at x _) (by simpa only [hq] using hH),
    product_at x q r ⟨32 + k.val, by omega⟩ (fun j => digLo (peakOf (ent x)) (x (ix2 j k)))
      (fun j => by
        rw [dif_neg (show ¬ 32 + k.val < 32 by omega), digLo_at]
        have : (⟨32 + k.val - 32, by omega⟩ : Fin 32) = k := Fin.ext (by show 32 + k.val - 32 = k.val; omega)
        rw [this]) (by simpa only [hq] using hL)]
  simp only [digHi_at, digLo_at, stepHi_at, stepLo_at, hq]
  unfold kernelEntry
  with_reducible rfl

end Cert.Proof
-- ==== Proof.Regions.lean ====
/- What each region leaves in its output arrays, from the contents it is entered with: the whole array as one function of an
   index, over all the blocks it is written in. -/
module

public import proofs.«01_k».proof.Proof.Gen.KernelIdeal.Frame
public import proofs.«01_k».proof.Proof.ByteProduct
public import Idealize.ShloMosaic.Lib.Pipeline.ValueKit
public import Idealize.ShloMosaic.Lib.Pointwise

@[expose] public section

set_option maxRecDepth 16384

noncomputable section

namespace Cert.Proof

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Where each window's blocks lie, region by region. -/
theorem idx0 : ∀ t : Fin cfg0.N, win0_0.index t = ![0, 0] ∧ win0_1.index t = ![0, 0] ∧ win0_2.index t = ![0, 0] :=
  (by decide +kernel : ∀ t : Fin grid0.N, _)

/-- The first pass's windows. -/
theorem idx1 : ∀ t : Fin cfg1.N, win1_0.index t = ![t.val, 0] ∧ win1_1.index t = ![0, 0] ∧ win1_2.index t = ![0, 0]
    ∧ win1_3.index t = ![t.val, 0] ∧ win1_4.index t = ![t.val, 0] :=
  (by decide +kernel : ∀ t : Fin grid1.N, _)

/-- The second pass's windows. -/
theorem idx2 : ∀ t : Fin cfg2.N, win2_0.index t = ![t.val, 0] ∧ win2_1.index t = ![0, 0] ∧ win2_2.index t = ![t.val, 0] :=
  (by decide +kernel : ∀ t : Fin grid2.N, _)

/-- The product of the features with the first weights. -/
def firstSupport (x : FVec Ideal S10000x128 .f32) (w : FVec Ideal S128x32 .f32) : FVec Ideal S10000x32 .f32 :=
  fun j => ∑ k : Fin 128, x (ix2 (j 0) k) * w (ix2 k (j 1))

/-- The first region's array. -/
theorem first_array (c : Dev nD) :
    (dat0 V c).arrAt 2 cfg0.N = firstSupport (V c main_arg0) (V c main_arg2) := by
  refine (dat0 V c).arrAt_eq_of_covers 2 _ (by decide +kernel) fun t hf y => ?_
  blk_simp
  rw [after0_2]
  frame_out
  pointwise [k0_pay1, firstSupport]
  blk_point [iblk0, idx0 t]

/-- The rows the first pass leaves: the hidden layer, with what a half-precision split of the support leaves over, times the
    joined second weights. -/
def secondSupport (a : FVec Ideal S10000x10000 .f32) (s : FVec Ideal S10000x32 .f32) (w : FVec Ideal S32x32 .f32) :
    FVec Ideal S10000x32 .f32 :=
  fun j => ∑ k : Fin 32, max ((∑ l : Fin 10000, a (ix2 (j 0) l) * s (ix2 l k))
    + ∑ l : Fin 10000, a (ix2 (j 0) l) * (s (ix2 l k) - s (ix2 l k))) 0 * w (ix2 k (j 1))

/-- The first pass's rows. -/
theorem second_array (c : Dev nD) :
    (dat1 V c).arrAt 3 cfg1.N = secondSupport (V c main_arg1) (V c main_v1) (V c main_v0) := by
  refine (dat1 V c).arrAt_eq_of_covers 3 _ (by decide +kernel) fun t hf y => ?_
  blk_simp
  rw [after1_3]
  frame_out
  pointwise [k1_pay2, secondSupport]
  blk_point [iblk1, idx1 t]

/-- The first pass's bytes. -/
theorem bytes_array (c : Dev nD) :
    (dat1 V c).arrAt 4 cfg1.N = fun j => codeByte ((V c main_arg1 : FVec Ideal S10000x10000 .f32) j) := by
  refine (dat1 V c).arrAt_eq_of_covers 4 _ (by decide +kernel) fun t hf y => ?_
  blk_simp
  rw [after1_4]
  frame_out
  rw [bytes_at]
  congr 1
  blk_ext [iblk1, idx1 t]

/-- The second pass's array, where it is entered with the bytes of `a` and the rows `s` and both digits' totals are within the
    matrix unit's bound. -/
theorem out_array (c : Dev nD) (a : FVec Ideal S10000x10000 .f32) (s : FVec Ideal S10000x32 .f32)
    (hq : V c main_v2_1 = fun j => codeByte (a j)) (hs : V c main_v2_0 = s)
    (hH : ∀ (i : Fin 10000) (k : Fin 32), ∑ j, ((codeByte (a (ix2 i j))).toInt * (Ideal.fptosi 8 (digHi (peakOf (ent s)) (s (ix2 j k)))).toInt).natAbs ≤ 67108864)
    (hL : ∀ (i : Fin 10000) (k : Fin 32), ∑ j, ((codeByte (a (ix2 i j))).toInt * (Ideal.fptosi 8 (digLo (peakOf (ent s)) (s (ix2 j k)))).toInt).natAbs ≤ 67108864) :
    (dat2 V c).arrAt 2 cfg2.N
      = fun j : S10000x32.Idx => kernelEntry (peakOf (ent s)) (fun l => a (ix2 (j 0) l)) (fun l => s (ix2 l (j 1))) := by
  refine (dat2 V c).arrAt_eq_of_covers 2 _ (by decide +kernel) fun t hf y => ?_
  blk_simp
  rw [after2_2]
  frame_out
  have h1 : iblk2 V c 1 t = s := by
    rw [← hs]
    funext j
    blk_ext [iblk2, idx2 t]
  rw [h1]
  generalize hi : ((View.whole main_v3).slice (win2_2.rect t)).emb y = i
  idx_vars y
  have h0 : ∀ j, iblk2 V c 0 t (ix2 y0 j) = codeByte (a (ix2 (i 0) j)) := fun j => by
    rw [← hi]
    blk_simp [iblk2]
    rw [hq]
    refine congrArg (fun z => codeByte (a z)) ?_
    blk_ext [idx2 t]
  have h2 : i 1 = y1 := by
    rw [← hi]
    apply Fin.ext
    blk_simp [idx2 t]
  rw [h2]
  exact entry_at s (iblk2 V c 0 t) (fun l => a (ix2 (i 0) l)) y0 y1 h0 (hH (i 0) y1) (hL (i 0) y1)

end Cert.Proof
-- ==== Proof.KernelValue.lean ====
/- The kernel's two results at the end of its run, as functions of its arguments: the chain of boundaries read backwards
   from the results, through the three regions' arrays, to the arguments. -/
module

public import proofs.«01_k».proof.Proof.Regions
public import proofs.«01_k».proof.Proof.Gen.KernelIdeal.Frame

@[expose] public section

set_option maxRecDepth 16384

noncomputable section

namespace Cert.Proof

open Cert.KernelIdeal Cert.KernelIdeal.Gen
open Idealize.ShloMosaic Idealize.ShloMosaic.TcCoe Idealize.ShloMosaic.StableHlo

variable (m : (ℓ : Loc nD τ sig) → Buf (Elt Ideal) ℓ) (ρ : Dev nD → PrngReg) (c : Dev nD)

/-- The second layer's two weight matrices, side by side. -/
def joinedWeights (w2 w3 : FVec Ideal S32x16 .f32) : FVec Ideal S32x32 .f32 :=
  concatenate S32x32 1 [⟨S32x16, w2⟩, ⟨S32x16, w3⟩] concatenates_S32x16_S32x16_S32x32_d1

theorem V1_features : V1 m ρ c main_arg0 = m ((c.tc : Thread nD τ).loc main_arg0) :=
  W1_args m ρ c main_arg0 (by decide)

theorem V1_weights : V1 m ρ c main_arg2 = m ((c.tc : Thread nD τ).loc main_arg2) :=
  W1_args m ρ c main_arg2 (by decide)

theorem V1_joined : V1 m ρ c main_v0
    = joinedWeights (m ((c.tc : Thread nD τ).loc main_arg3)) (m ((c.tc : Thread nD τ).loc main_arg4)) := by
  show StableHlo.after hostOps0 (W0 m ρ c) _ = _
  unfold hostOps0
  after_results_simp
  rfl

theorem V2_support : V2 m ρ c main_v1
    = firstSupport (m ((c.tc : Thread nD τ).loc main_arg0)) (m ((c.tc : Thread nD τ).loc main_arg2)) := by
  rw [← V1_features m ρ c, ← V1_weights m ρ c, ← first_array (V1 m ρ) c]
  exact W2_arr m ρ c 2

theorem V2_adjacency : V2 m ρ c main_arg1 = m ((c.tc : Thread nD τ).loc main_arg1) :=
  W2_args m ρ c main_arg1 (by decide)

theorem V2_joined : V2 m ρ c main_v0
    = joinedWeights (m ((c.tc : Thread nD τ).loc main_arg3)) (m ((c.tc : Thread nD τ).loc main_arg4)) := by
  rw [← V1_joined m ρ c]
  exact W2_of m ρ c _ (by decide)

theorem V3_support : V3 m ρ c main_v2_0
    = secondSupport (m ((c.tc : Thread nD τ).loc main_arg1))
        (firstSupport (m ((c.tc : Thread nD τ).loc main_arg0)) (m ((c.tc : Thread nD τ).loc main_arg2)))
        (joinedWeights (m ((c.tc : Thread nD τ).loc main_arg3)) (m ((c.tc : Thread nD τ).loc main_arg4))) := by
  rw [← V2_adjacency m ρ c, ← V2_support m ρ c, ← V2_joined m ρ c, ← second_array (V2 m ρ) c]
  exact W3_arr m ρ c 3

theorem V3_bytes : V3 m ρ c main_v2_1 = fun j => codeByte (m ((c.tc : Thread nD τ).loc main_arg1) j) := by
  rw [← V2_adjacency m ρ c, ← bytes_array (V2 m ρ) c]
  exact W3_arr m ρ c 4

/-- The adjacency as launched. -/
abbrev adjacency : FVec Ideal S10000x10000 .f32 := m ((c.tc : Thread nD τ).loc main_arg1)

/-- The last region's array, the second support named and the two digits' sums within the exact range. -/
theorem W4_out (s : FVec Ideal S10000x32 .f32)
    (hs : secondSupport (m ((c.tc : Thread nD τ).loc main_arg1))
        (firstSupport (m ((c.tc : Thread nD τ).loc main_arg0)) (m ((c.tc : Thread nD τ).loc main_arg2)))
        (joinedWeights (m ((c.tc : Thread nD τ).loc main_arg3)) (m ((c.tc : Thread nD τ).loc main_arg4))) = s)
    (hH : ∀ (i : Fin 10000) (k : Fin 32), ∑ j, ((codeByte (adjacency m c (ix2 i j))).toInt
      * (Ideal.fptosi 8 (digHi (peakOf (ent s)) (s (ix2 j k)))).toInt).natAbs ≤ 67108864)
    (hL : ∀ (i : Fin 10000) (k : Fin 32), ∑ j, ((codeByte (adjacency m c (ix2 i j))).toInt
      * (Ideal.fptosi 8 (digLo (peakOf (ent s)) (s (ix2 j k)))).toInt).natAbs ≤ 67108864) :
    W4 m ρ c (Proc.devRef .tc main_v3) = fun j : S10000x32.Idx =>
      kernelEntry (peakOf (ent s)) (fun l => adjacency m c (ix2 (j 0) l)) (fun l => s (ix2 l (j 1))) :=
  (W4_arr m ρ c 2).trans (out_array (V3 m ρ) c (adjacency m c) s (V3_bytes m ρ c) ((V3_support m ρ c).trans hs) hH hL)

/-- The first result is the first sixteen columns of the last region's array. -/
theorem W5_first : W5 m ρ c (Proc.devRef .tc main_v4)
    = extractStridedSlice S10000x16 ![0, 0] (W4 m ρ c (Proc.devRef .tc main_v3) : FVec Ideal S10000x32 .f32)
        slices_S10000x32_S10000x16_0_0 := by
  show StableHlo.after hostOps3 (W4 m ρ c) _ = _
  unfold hostOps3
  after_results_simp

/-- The last result is the other sixteen. -/
theorem W5_last : W5 m ρ c (Proc.devRef .tc main_v5)
    = extractStridedSlice S10000x16 ![0, 16] (W4 m ρ c (Proc.devRef .tc main_v3) : FVec Ideal S10000x32 .f32)
        slices_S10000x32_S10000x16_0_16 := by
  show StableHlo.after hostOps3 (W4 m ρ c) _ = _
  unfold hostOps3
  after_results_simp

end Cert.Proof

end
-- ==== Proof.Supports.lean ====
/- The kernel's second support is the reference's wherever the first support is finite: the first support's second half is
   then a difference of equal finite numbers, and products with weights side by side are the products side by side. -/
module

public import proofs.«01_k».proof.Proof.Host
public import proofs.«01_k».proof.Proof.KernelValue

@[expose] public section

set_option maxRecDepth 16384

noncomputable section

namespace Cert.Proof

open Cert.KernelIdeal Cert.KernelIdeal.Gen
open Idealize.ShloMosaic

/-- A number of finite magnitude less itself is zero. -/
theorem sub_self_of_finite {v : EReal} (h : max v (-v) < ⊤) : v - v = 0 := by
  refine EReal.sub_self (ne_of_lt ((le_max_left _ _).trans_lt h)) ?_
  rintro rfl
  exact absurd ((le_max_right _ _).trans_lt h) (by simp)

theorem firstSupport_plain (x : FVec Ideal S10000x128 .f32) (w : FVec Ideal S128x32 .f32) :
    firstSupport x w = Plain.firstVec x w := by
  funext j
  rw [Plain.firstVec_at]
  rfl

theorem joinedWeights_at (w2 w3 : FVec Ideal S32x16 .f32) (j : S32x32.Idx) :
    joinedWeights w2 w3 j = if lt : (j 1).val < 16 then w2 (ix2 (j 0) ⟨(j 1).val, lt⟩)
      else w3 (ix2 (j 0) ⟨(j 1).val - 16, by have := (j 1).isLt; simp at this; omega⟩) := by
  pointwise [joinedWeights]

/-- The second support of a finite first support. -/
theorem secondSupport_at (a : FVec Ideal S10000x10000 .f32) (s : FVec Ideal S10000x32 .f32) (w : FVec Ideal S32x32 .f32)
    (hs : ∀ j, max (s j) (-(s j)) < ⊤) (j : S10000x32.Idx) :
    secondSupport a s w j = ∑ k : Fin 32, Plain.hiddenVec a s (ix2 (j 0) k) * w (ix2 k (j 1)) := by
  unfold secondSupport
  refine Finset.sum_congr rfl fun k _ => ?_
  rw [Plain.hiddenVec_at]
  simp only [sub_self_of_finite (hs _), mul_zero, Finset.sum_const_zero, add_zero]
  rfl

theorem secondSupport_plain (x : FVec Ideal S10000x128 .f32) (a : FVec Ideal S10000x10000 .f32)
    (w1 : FVec Ideal S128x32 .f32) (w2 w3 : FVec Ideal S32x16 .f32)
    (hs : ∀ j, max (Plain.firstVec x w1 j) (-(Plain.firstVec x w1 j)) < ⊤) :
    secondSupport a (firstSupport x w1) (joinedWeights w2 w3) = Plain.supVec x a w1 w2 w3 := by
  funext j
  rw [firstSupport_plain, secondSupport_at a _ _ hs]
  unfold Plain.supVec
  rw [Plain.joinVec_at]
  generalize Plain.hiddenVec a (Plain.firstVec x w1) = h
  simp only [joinedWeights_at]
  by_cases lt : (j 1).val < 16
  · rw [dif_pos lt]
    refine Finset.sum_congr rfl fun k _ => ?_
    exact congrArg (h (ix2 (j 0) k) * ·) (dif_pos lt)
  · rw [dif_neg lt]
    refine Finset.sum_congr rfl fun k _ => ?_
    exact congrArg (h (ix2 (j 0) k) * ·) (dif_neg lt)

end Cert.Proof

end
-- ==== Proof.Precondition.lean ====
/- The precondition in plain words: the first support is finite, and for every row of the adjacency and every column of
   digits the magnitudes of the byte products add up to at most 2^26. -/
module

public import proofs.«01_k».proof.Pre_exact_sums
public import proofs.«01_k».proof.Proof.Host

@[expose] public section

set_option maxRecDepth 16384

noncomputable section

namespace Cert.Proof

open Cert.Pre_exact_sums
open Idealize.ShloMosaic

/-- The shape conditions of the precondition's operations. -/
theorem preFacts : Cert.Pre_exact_sums.Facts where
  bcast_S_S10000x32 := by decide
  concatenates_S10000x16_S10000x16_S10000x32_d1 := by decide
  reducesTo_S10000x32_S_d0_1 := by decide
  h_S_ := by decide
  bcast_S_S10000x10000 := by decide
  concatenates_S10000x32_S10000x32_S10000x64_d1 := by decide
  bcast_S_S10000x64 := by decide
  dot_S10000x128_S128x32_S10000x32_1_0_0_1_n_n_wf := by decide
  dot_S10000x10000_S10000x32_S10000x32_1_0_0_1_n_n_wf := by decide
  dot_S10000x32_S32x16_S10000x16_1_0_0_1_n_n_wf := by decide
  dot_S10000x10000_S10000x64_S10000x64_1_0_0_1_n_n_wf := by decide

local instance : Cert.Pre_exact_sums.Facts := preFacts

/-- The first condition, of any array. -/
def finiteVec (s : FVec Ideal S10000x32 .f32) : IVec S10000x32 1 :=
  cmpf .olt (Host.absf s) (broadcastInDim S10000x32 ![] Facts.bcast_S_S10000x32 (constant S_ .f32 0x7F800000#32))

/-- The totals of the magnitudes, of any codes and digits. -/
def totalVec (q : FVec Ideal S10000x10000 .f32) (hi lo : FVec Ideal S10000x32 .f32) : FVec Ideal S10000x64 .f32 :=
  Host.dotGeneral dot_S10000x10000_S10000x64_S10000x64_1_0_0_1_n_n none
    (Host.absf (subf q (broadcastInDim S10000x10000 ![] Facts.bcast_S_S10000x10000 (constant S_ .f32 0x43000000#32))))
    (Host.absf (concatenate S10000x64 1 [⟨S10000x32, hi⟩, ⟨S10000x32, lo⟩]
      Facts.concatenates_S10000x32_S10000x32_S10000x64_d1))

/-- The second condition, of any totals. -/
def boundVec (t : FVec Ideal S10000x64 .f32) : IVec S10000x64 1 :=
  cmpf .ole t (broadcastInDim S10000x64 ![] Facts.bcast_S_S10000x64 (constant S_ .f32 0x4C800000#32))

variable (x : FVec Ideal S10000x128 .f32) (a : FVec Ideal S10000x10000 .f32) (w1 : FVec Ideal S128x32 .f32)
  (w2 w3 : FVec Ideal S32x16 .f32)

/-- The first condition is of the first support. -/
theorem fn_first : (fn (F := Ideal) x a w1 w2 w3).1 = finiteVec (Plain.firstVec x w1) := rfl

/-- The second condition is of the codes and the two digits of the second support. -/
theorem fn_second : (fn (F := Ideal) x a w1 w2 w3).2
    = boundVec (totalVec (Plain.codeVec a) (Plain.hiVec (Plain.supVec x a w1 w2 w3) (Plain.peakVec (Plain.supVec x a w1 w2 w3)))
        (Plain.loVec (Plain.supVec x a w1 w2 w3) (Plain.peakVec (Plain.supVec x a w1 w2 w3)))) := rfl

theorem of_bit {p : Prop} [Decidable p] (h : BitVec.ofBool (decide p) = 1#1) : p := by
  by_contra hp
  rw [decide_eq_false hp] at h
  exact absurd h (by decide)

theorem finiteVec_at (s : FVec Ideal S10000x32 .f32) (j : S10000x32.Idx) (h : finiteVec s j = 1#1) :
    max (s j) (-(s j)) < ⊤ := by
  revert h
  pointwise [finiteVec]
  rw [lit_top]
  exact fun h => of_bit h

theorem boundVec_at (t : FVec Ideal S10000x64 .f32) (j : S10000x64.Idx) (h : boundVec t j = 1#1) :
    t j ≤ ((67108864 : ℝ) : EReal) := by
  revert h
  pointwise [boundVec]
  rw [lit_bound]
  exact fun h => of_bit h

/-- A total, read at a row and a column of the joined digits. -/
theorem totalVec_at (q : FVec Ideal S10000x10000 .f32) (hi lo : FVec Ideal S10000x32 .f32) (j : S10000x64.Idx) :
    totalVec q hi lo j = ∑ l : Fin 10000,
      max (q (ix2 (j 0) l) - ((128 : ℝ) : EReal)) (-(q (ix2 (j 0) l) - ((128 : ℝ) : EReal)))
        * FloatOps.absf (F := Ideal) (φ := .f32) (if lt : (j 1).val < 32 then hi (ix2 l ⟨(j 1).val, lt⟩)
            else lo (ix2 l ⟨(j 1).val - 32, by have := (j 1).isLt; simp at this; omega⟩)) := by
  pointwise [totalVec]
  rw [lit_128]
  rfl

/-- The totals over the first digits. -/
theorem totalVec_hi (q : FVec Ideal S10000x10000 .f32) (hi lo : FVec Ideal S10000x32 .f32) (i : Fin 10000) (k : Fin 32) :
    totalVec q hi lo (ix2 i (⟨k.val, by omega⟩ : Fin 64)) = ∑ l : Fin 10000,
      max (q (ix2 i l) - ((128 : ℝ) : EReal)) (-(q (ix2 i l) - ((128 : ℝ) : EReal)))
        * max (hi (ix2 l k)) (-(hi (ix2 l k))) := by
  rw [totalVec_at]
  refine Finset.sum_congr rfl fun l _ => ?_
  exact congrArg (fun z => max (q (ix2 i l) - ((128 : ℝ) : EReal)) (-(q (ix2 i l) - ((128 : ℝ) : EReal)))
    * FloatOps.absf (F := Ideal) (φ := .f32) z) (dif_pos k.isLt)

/-- The totals over the second digits. -/
theorem totalVec_lo (q : FVec Ideal S10000x10000 .f32) (hi lo : FVec Ideal S10000x32 .f32) (i : Fin 10000) (k : Fin 32) :
    totalVec q hi lo (ix2 i (⟨k.val + 32, by omega⟩ : Fin 64)) = ∑ l : Fin 10000,
      max (q (ix2 i l) - ((128 : ℝ) : EReal)) (-(q (ix2 i l) - ((128 : ℝ) : EReal)))
        * max (lo (ix2 l k)) (-(lo (ix2 l k))) := by
  rw [totalVec_at]
  refine Finset.sum_congr rfl fun l _ => ?_
  exact congrArg (fun z => max (q (ix2 i l) - ((128 : ℝ) : EReal)) (-(q (ix2 i l) - ((128 : ℝ) : EReal)))
    * FloatOps.absf (F := Ideal) (φ := .f32) z) ((dif_neg (by simp)).trans (congrArg lo (by congr 1)))

/-- The first condition in plain words. -/
theorem first_finite (h : (fn (F := Ideal) x a w1 w2 w3).1 = fun _ => 1#1) (j : S10000x32.Idx) :
    max (Plain.firstVec x w1 j) (-(Plain.firstVec x w1 j)) < ⊤ := by
  rw [fn_first] at h
  exact finiteVec_at _ _ (congrFun h j)

/-- What the second condition bounds, digit by digit. -/
theorem bytes_within (s : FVec Ideal S10000x32 .f32) (p : FVec Ideal S_ .f32) (hp : p ix0 = peakOf (ent s))
    (h : boundVec (totalVec (Plain.codeVec a) (Plain.hiVec s p) (Plain.loVec s p)) = fun _ => 1#1) :
    (∀ (i : Fin 10000) (k : Fin 32), ∑ j, ((codeByte (a (ix2 i j))).toInt
      * (Ideal.fptosi 8 (digHi (peakOf (ent s)) (s (ix2 j k)))).toInt).natAbs ≤ 67108864)
    ∧ ∀ (i : Fin 10000) (k : Fin 32), ∑ j, ((codeByte (a (ix2 i j))).toInt
      * (Ideal.fptosi 8 (digLo (peakOf (ent s)) (s (ix2 j k)))).toInt).natAbs ≤ 67108864 := by
  have digits := fun (l : Fin 10000) (k : Fin 32) => digits_int (peakOf_pos (ent s)) (v := s (ix2 l k))
    (le_peak _ _ (ent s) l k)
  constructor
  · intro i k
    have b := boundVec_at _ _ (congrFun h (ix2 i (⟨k.val, by omega⟩ : Fin 64)))
    rw [totalVec_hi] at b
    simp only [Plain.codeVec_at, Plain.hiVec_at s p _ _ hp] at b
    exact byte_total (fun l => (digits l k).1) b
  · intro i k
    have b := boundVec_at _ _ (congrFun h (ix2 i (⟨k.val + 32, by omega⟩ : Fin 64)))
    rw [totalVec_lo] at b
    simp only [Plain.codeVec_at, Plain.loVec_at s p _ _ hp] at b
    exact byte_total (fun l => (digits l k).2) b

end Cert.Proof

end
-- ==== Proof.Algebraic.lean ====
/- The value claim: over the extended reals, where the precondition holds, the kernel's three results and the reference's
   are the same arrays. -/
module

public import proofs.«01_k».proof.Defs
public import proofs.«01_k».proof.Proof.Launch
public import proofs.«01_k».proof.Proof.Supports
public import proofs.«01_k».proof.Proof.Precondition
public import proofs.«01_k».proof.Proof.Gen.ReferenceIdeal.Run

@[expose] public section

set_option maxRecDepth 16384

noncomputable section

namespace Cert.Proof

open Idealize.ShloMosaic Idealize.ShloMosaic.TcCoe Idealize.SL.Sem

attribute [local instance] Cert.KernelIdeal.Gen.facts Cert.ReferenceIdeal.Gen.facts
local instance : Cert.Pre_exact_sums.Facts := preFacts

section
open Cert.ReferenceIdeal Cert.ReferenceIdeal.Gen

/-- The reference's whole result: both halves side by side. -/
def wholeOf (x : FVec Ideal S10000x128 .f32) (a : FVec Ideal S10000x10000 .f32) (w1 : FVec Ideal S128x32 .f32)
    (w2 w3 : FVec Ideal S32x16 .f32) : FVec Ideal S10000x32 .f32 :=
  Plain.outVec a (Plain.supVec x a w1 w2 w3) (Plain.peakVec (Plain.supVec x a w1 w2 w3))

variable (m : (ℓ : Loc nD τ sig) → Buf (Elt Ideal) ℓ) (c : Dev nD)

/-- The reference's first half. -/
theorem reference_first : Value.res_main_v35 (F := Ideal) m c = extractStridedSlice S10000x16 ![0, 0]
    (wholeOf (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4))) slices_S10000x32_S10000x16_0_0 := rfl

/-- The reference's last half. -/
theorem reference_last : Value.res_main_v36 (F := Ideal) m c = extractStridedSlice S10000x16 ![0, 16]
    (wholeOf (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4))) slices_S10000x32_S10000x16_0_16 := rfl

end

section
open Cert.KernelIdeal Cert.KernelIdeal.Gen

variable (m : (ℓ : Loc nD τ sig) → Buf (Elt Ideal) ℓ) (ρ : Dev nD → PrngReg) (c : Dev nD)

/-- Where the precondition holds the kernel's last array is the reference's whole result. -/
theorem kernel_whole (hp : Cert.Pre_KernelIdeal_exact_sums m) : W4 m ρ c (Proc.devRef .tc main_v3)
    = wholeOf (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) := by
  obtain ⟨h1, h2⟩ := hp c
  have sup := secondSupport_plain _ (m ((c.tc : Thread nD τ).loc main_arg1)) _ (m ((c.tc : Thread nD τ).loc main_arg3))
    (m ((c.tc : Thread nD τ).loc main_arg4)) (first_finite _ _ _ _ _ h1)
  rw [fn_second] at h2
  unfold wholeOf
  generalize Plain.supVec (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) = s at sup h2 ⊢
  have peakAt := Plain.peakVec_at s
  generalize Plain.peakVec s = p at h2 peakAt ⊢
  obtain ⟨hH, hL⟩ := bytes_within _ s p peakAt h2
  rw [W4_out m ρ c s sup hH hL]
  funext j
  rw [Plain.outVec_at _ s p _ peakAt]
  exact entry_eq (peakOf_pos (ent s)) _ _ fun l => le_peak _ _ (ent s) l (j 1)

end

/-- The value claim. -/
theorem algebraic : Cert.algebraic_KernelIdeal_ReferenceIdeal_pre_exact_sums := by
  intro m g m' g' hp harg
  refine ⟨fun c => Cert.KernelIdeal.Gen.W5 m g c (Proc.devRef .tc Cert.KernelIdeal.main_v4),
    fun c => Cert.KernelIdeal.Gen.W5 m g c (Proc.devRef .tc Cert.KernelIdeal.main_v4),
    fun c => Cert.KernelIdeal.Gen.W5 m g c (Proc.devRef .tc Cert.KernelIdeal.main_v5), ?_, ?_⟩
  · exact (θ_run Cert.KernelIdeal.defs _ _).mono
      (fun r h c => ⟨(h c).1, (h c).1, (h c).2⟩) (kernel_run (F := Ideal) m g)
  · refine (θ_run Cert.ReferenceIdeal.defs _ _).mono (fun r h c => ?_) (Cert.ReferenceIdeal.Value.run (F := Ideal) m' g')
    obtain ⟨e0, e1, e2, e3, e4⟩ := harg c
    have first : Cert.ReferenceIdeal.Value.res_main_v35 (F := Ideal) m' c
        = Cert.KernelIdeal.Gen.W5 m g c (Proc.devRef .tc Cert.KernelIdeal.main_v4) := by
      rw [reference_first, W5_first, kernel_whole m g c hp, e0, e1, e2, e3, e4]
    have last : Cert.ReferenceIdeal.Value.res_main_v36 (F := Ideal) m' c
        = Cert.KernelIdeal.Gen.W5 m g c (Proc.devRef .tc Cert.KernelIdeal.main_v5) := by
      rw [reference_last, W5_last, kernel_whole m g c hp, e0, e1, e2, e3, e4]
    exact ⟨(h c).1.trans first, (h c).2.1.trans first, (h c).2.2.1.trans last, (h c).2.2.2⟩

end Cert.Proof

end
-- ==== Proof.lean ====
/- The proof of the claim: the side conditions' witnesses, the frames, the ledger and the value claim, each proved in a
   module of its own. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, preFacts,
    frame_kernel, frame_ideal, fun m ρ _ => frame_ideal m ρ trivial,
    frame_reference, fun m ρ _ => frame_reference m ρ trivial, ledger, algebraic⟩

end Cert.Proof

end
